-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_RefQuantIdeal (m : (ℓ : Loc Cert.RefQuantIdeal.nD Cert.RefQuantIdeal.τ Cert.RefQuantIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ r.2.sem = fun _ => 0)

def quiescent_RefQuantIdeal [hRefQuantIdeal : Cert.RefQuantIdeal.Facts] : Prop :=
  ∀ (m : (ℓ : Loc Cert.RefQuantIdeal.nD Cert.RefQuantIdeal.τ Cert.RefQuantIdeal.sig) → Buf (Elt Ideal) ℓ) (g : Dev Cert.RefQuantIdeal.nD → PrngReg), Pre_RefQuantIdeal m →
    θ_run (Cert.RefQuantIdeal.defs (F := Ideal)) (onTc (τ := Cert.RefQuantIdeal.τ) (Cert.RefQuantIdeal.main (F := Ideal))) ⟨m, fun _ => 0, g⟩ (fun r => (∀ c : Dev Cert.RefQuantIdeal.nD,
      r.2.mem ((c.tc : Thread Cert.RefQuantIdeal.nD Cert.RefQuantIdeal.τ).loc Cert.RefQuantIdeal.main_arg0) = m ((c.tc : Thread Cert.RefQuantIdeal.nD Cert.RefQuantIdeal.τ).loc Cert.RefQuantIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Quant_QuantIdeal : Prop :=
  True

def algebraic_QuantIdeal_RefQuantIdeal [hQuantIdeal : Cert.QuantIdeal.Facts] [hRefQuantIdeal : Cert.RefQuantIdeal.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.RefQuantIdeal.nD Cert.RefQuantIdeal.τ Cert.RefQuantIdeal.sig) → Buf (Elt Ideal) ℓ) (g' : Dev Cert.RefQuantIdeal.nD → PrngReg), Pre_QuantIdeal m →
    (∀ c : Dev Cert.QuantIdeal.nD,
      m' ((c.tc : Thread Cert.RefQuantIdeal.nD Cert.RefQuantIdeal.τ).loc Cert.RefQuantIdeal.main_arg0) = m ((c.tc : Thread Cert.QuantIdeal.nD Cert.QuantIdeal.τ).loc Cert.QuantIdeal.main_arg0)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0))
      ∧ θ_run (Cert.RefQuantIdeal.defs (F := Ideal)) (onTc (τ := Cert.RefQuantIdeal.τ) (Cert.RefQuantIdeal.main (F := Ideal))) ⟨m', fun _ => 0, g'⟩ (fun r => ∀ c : Dev Cert.RefQuantIdeal.nD,
          r.2.mem ((c.tc : Thread Cert.RefQuantIdeal.nD Cert.RefQuantIdeal.τ).loc Cert.RefQuantIdeal.main_v0_0) = v0 c
          ∧ r.2.mem ((c.tc : Thread Cert.RefQuantIdeal.nD Cert.RefQuantIdeal.τ).loc Cert.RefQuantIdeal.main_v0_1) = v1 c
          ∧ r.2.mem ((c.tc : Thread Cert.RefQuantIdeal.nD Cert.RefQuantIdeal.τ).loc Cert.RefQuantIdeal.main_arg0) = m' ((c.tc : Thread Cert.RefQuantIdeal.nD Cert.RefQuantIdeal.τ).loc Cert.RefQuantIdeal.main_arg0))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hRefQuantIdeal : Cert.RefQuantIdeal.Facts),
    quiescent_Kernel (hKernel := hKernel)
    ∧ quiescent_KernelIdeal (hKernelIdeal := hKernelIdeal)
    ∧ quiescent_ReferenceIdeal (hReferenceIdeal := hReferenceIdeal)
    ∧ quiescent_Quant (hQuant := hQuant)
    ∧ quiescent_QuantIdeal (hQuantIdeal := hQuantIdeal)
    ∧ quiescent_RefQuantIdeal (hRefQuantIdeal := hRefQuantIdeal)
    ∧ preserves_Kernel_KernelIdeal
    ∧ algebraic_KernelIdeal_ReferenceIdeal (hKernelIdeal := hKernelIdeal) (hReferenceIdeal := hReferenceIdeal)
    ∧ preserves_Quant_QuantIdeal
    ∧ algebraic_QuantIdeal_RefQuantIdeal (hQuantIdeal := hQuantIdeal) (hRefQuantIdeal := hRefQuantIdeal)
-- ==== Kernel.lean ====
abbrev S8192x7168 : Shape := ⟨2, ![8192, 7168]⟩
abbrev S8192x128 : Shape := ⟨2, ![8192, 128]⟩
abbrev S7168x2304 : Shape := ⟨2, ![7168, 2304]⟩
abbrev S448x4608 : Shape := ⟨2, ![448, 4608]⟩
abbrev S_ : Shape := ⟨0, ![]⟩
abbrev S448x2304 : Shape := ⟨2, ![448, 2304]⟩
abbrev S1 : Shape := ⟨1, ![1]⟩
abbrev S8192x2304 : Shape := ⟨2, ![8192, 2304]⟩
abbrev S512x7168 : Shape := ⟨2, ![512, 7168]⟩
abbrev S7168x256 : Shape := ⟨2, ![7168, 256]⟩
abbrev S448x256 : Shape := ⟨2, ![448, 256]⟩
abbrev S512x128 : Shape := ⟨2, ![512, 128]⟩
abbrev S512x2304 : Shape := ⟨2, ![512, 2304]⟩
abbrev S9x512x256 : Shape := ⟨3, ![9, 512, 256]⟩
abbrev S512x256 : Shape := ⟨2, ![512, 256]⟩
abbrev S128x256 : Shape := ⟨2, ![128, 256]⟩
abbrev S32x256 : Shape := ⟨2, ![32, 256]⟩
abbrev S32x1x256 : Shape := ⟨3, ![32, 1, 256]⟩
abbrev S32x16x256 : Shape := ⟨3, ![32, 16, 256]⟩
abbrev S512x1 : Shape := ⟨2, ![512, 1]⟩
abbrev S1x512x256 : Shape := ⟨3, ![1, 512, 256]⟩
abbrev S512 : Shape := ⟨1, ![512]⟩

abbrev nBuf : Space → Nat
  | .hbm => 10
  | .vmem => 17
  | .smem => 1
  | _ => 0

abbrev bufTy : (tb : Table) → Fin (tcTables nBuf tb) → BufTy
  | .hbm, ⟨0, _⟩ => ⟨S8192x7168, .fp8e4m3⟩
  | .hbm, ⟨1, _⟩ => ⟨S8192x128, .f32⟩
  | .hbm, ⟨2, _⟩ => ⟨S7168x2304, .i8⟩
  | .hbm, ⟨3, _⟩ => ⟨S448x4608, .fp8e4m3⟩
  | .hbm, ⟨4, _⟩ => ⟨S_, .f32⟩
  | .hbm, ⟨5, _⟩ => ⟨S448x2304, .fp8e4m3⟩
  | .hbm, ⟨6, _⟩ => ⟨S448x2304, .fp8e4m3⟩
  | .hbm, ⟨7, _⟩ => ⟨S1, .f32⟩
  | .hbm, ⟨8, _⟩ => ⟨S8192x2304, .fp8e4m3⟩
  | .hbm, ⟨9, _⟩ => ⟨S8192x128, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S7168x256, .i8⟩
  | .local _ .vmem, ⟨3, _⟩ => ⟨S7168x256, .i8⟩
  | .local _ .vmem, ⟨4, _⟩ => ⟨S448x256, .fp8e4m3⟩
  | .local _ .vmem, ⟨5, _⟩ => ⟨S448x256, .fp8e4m3⟩
  | .local _ .vmem, ⟨6, _⟩ => ⟨S448x256, .fp8e4m3⟩
  | .local _ .vmem, ⟨7, _⟩ => ⟨S448x256, .fp8e4m3⟩
  | .local _ .vmem, ⟨8, _⟩ => ⟨S512x128, .f32⟩
  | .local _ .vmem, ⟨9, _⟩ => ⟨S512x128, .f32⟩
  | .local _ .vmem, ⟨10, _⟩ => ⟨S512x2304, .fp8e4m3⟩
  | .local _ .vmem, ⟨11, _⟩ => ⟨S512x2304, .fp8e4m3⟩
  | .local _ .vmem, ⟨12, _⟩ => ⟨S512x128, .f32⟩
  | .local _ .vmem, ⟨13, _⟩ => ⟨S512x128, .f32⟩
  | .local _ .vmem, ⟨14, _⟩ => ⟨S7168x256, .bf16⟩
  | .local _ .vmem, ⟨15, _⟩ => ⟨S7168x256, .bf16⟩
  | .local _ .vmem, ⟨16, _⟩ => ⟨S9x512x256, .f32⟩
  | .local _ .smem, ⟨0, _⟩ => ⟨S1, .f32⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 9], ![false, false]⟩

@[reducible] def k0_t1_loop : Scf.Loop 32 :=
  let c0_i32 : BitVec 32 := 0#32
  let c14_i32 : BitVec 32 := 14#32
  let v0 : BitVec 32 := Scalar.addi c0_i32 c14_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c512_i32 : BitVec 32 := 512#32
  let v27 : BitVec 32 := Scalar.muli arg13 c512_i32
  v27
def k0_mult2 (k0_t1 : Fin k0_t1_loop.trips) : BitVec 32 :=
  let c0_i32 : BitVec 32 := 0#32
  let c1_i32 : BitVec 32 := 1#32
  let arg13 : BitVec 32 := Scf.iv c0_i32 c1_i32 k0_t1
  let c32_i32 : BitVec 32 := 32#32
  let v29 : BitVec 32 := Scalar.muli arg13 c32_i32
  v29
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c512_i32 : BitVec 32 := 512#32
  let v27 : BitVec 32 := Scalar.muli arg13 c512_i32
  let v28 : BitVec 32 := v27
  let v31 : Index := Scalar.indexCast v28
  let c0_13 : Index := 0#32
  ![v31.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c32_i32 : BitVec 32 := 32#32
  let v29 : BitVec 32 := Scalar.muli arg13 c32_i32
  let v30 : BitVec 32 := v29
  let v54 : Index := Scalar.indexCast v30
  let c0_17 : Index := 0#32
  ![v54.toNat, 0]
def k0_off3 (i : grid0.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k0_cond1 (i : grid0.Coords) : BitVec 1 :=
  let arg1 : BitVec 32 := BitVec.ofNat 32 (i 1).val
  let c8_i32 : BitVec 32 := 8#32
  let v24 : BitVec 1 := Scalar.cmpi .eq arg1 c8_i32
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S448x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S448x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2304 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x7168 : Shape := ⟨2, ![8192, 7168]⟩
abbrev S8192x128 : Shape := ⟨2, ![8192, 128]⟩
abbrev S7168x2304 : Shape := ⟨2, ![7168, 2304]⟩
abbrev S448x4608 : Shape := ⟨2, ![448, 4608]⟩
abbrev S_ : Shape := ⟨0, ![]⟩
abbrev S448x2304 : Shape := ⟨2, ![448, 2304]⟩
abbrev S1 : Shape := ⟨1, ![1]⟩
abbrev S8192x2304 : Shape := ⟨2, ![8192, 2304]⟩
abbrev S448x16x2304 : Shape := ⟨3, ![448, 16, 2304]⟩
abbrev S448x1x2304 : Shape := ⟨3, ![448, 1, 2304]⟩
abbrev S8192x1 : Shape := ⟨2, ![8192, 1]⟩
abbrev S8192 : Shape := ⟨1, ![8192]⟩

abbrev nBuf : Space → Nat
  | .hbm => 10
  | .vmem => 7
  | .smem => 1
  | _ => 0

abbrev bufTy : (tb : Table) → Fin (tcTables nBuf tb) → BufTy
  | .hbm, ⟨0, _⟩ => ⟨S8192x7168, .fp8e4m3⟩
  | .hbm, ⟨1, _⟩ => ⟨S8192x128, .f32⟩
  | .hbm, ⟨2, _⟩ => ⟨S7168x2304, .i8⟩
  | .hbm, ⟨3, _⟩ => ⟨S448x4608, .fp8e4m3⟩
  | .hbm, ⟨4, _⟩ => ⟨S_, .f32⟩
  | .hbm, ⟨5, _⟩ => ⟨S448x2304, .fp8e4m3⟩
  | .hbm, ⟨6, _⟩ => ⟨S448x2304, .fp8e4m3⟩
  | .hbm, ⟨7, _⟩ => ⟨S1, .f32⟩
  | .hbm, ⟨8, _⟩ => ⟨S8192x2304, .fp8e4m3⟩
  | .hbm, ⟨9, _⟩ => ⟨S8192x128, .f32⟩
  | .local _ .vmem, ⟨0, _⟩ => ⟨S8192x7168, .fp8e4m3⟩
  | .local _ .vmem, ⟨1, _⟩ => ⟨S8192x128, .f32⟩
  | .local _ .vmem, ⟨2, _⟩ => ⟨S7168x2304, .i8⟩
  | .local _ .vmem, ⟨3, _⟩ => ⟨S448x2304, .fp8e4m3⟩
  | .local _ .vmem, ⟨4, _⟩ => ⟨S448x2304, .fp8e4m3⟩
  | .local _ .vmem, ⟨5, _⟩ => ⟨S8192x2304, .fp8e4m3⟩
  | .local _ .vmem, ⟨6, _⟩ => ⟨S8192x128, .f32⟩
  | .local _ .smem, ⟨0, _⟩ => ⟨S1, .f32⟩
  | _, _ => ⟨S8192x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg5_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x2304 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S448x2304 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S448x2304 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2304 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S8192x7168 : Shape := ⟨2, ![8192, 7168]⟩
abbrev S8192x128 : Shape := ⟨2, ![8192, 128]⟩
abbrev S128x7168 : Shape := ⟨2, ![128, 7168]⟩
abbrev S128x128 : Shape := ⟨2, ![128, 128]⟩
abbrev S128 : Shape := ⟨1, ![128]⟩
abbrev S128x1 : Shape := ⟨2, ![128, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x7168, .bf16⟩
  | .hbm, ⟨1, _⟩ => ⟨S8192x7168, .fp8e4m3⟩
  | .hbm, ⟨2, _⟩ => ⟨S8192x128, .f32⟩
  | .local _ .vmem, ⟨0, _⟩ => ⟨S128x7168, .bf16⟩
  | .local _ .vmem, ⟨1, _⟩ => ⟨S128x7168, .bf16⟩
  | .local _ .vmem, ⟨2, _⟩ => ⟨S128x7168, .fp8e4m3⟩
  | .local _ .vmem, ⟨3, _⟩ => ⟨S128x7168, .fp8e4m3⟩
  | .local _ .vmem, ⟨4, _⟩ => ⟨S128x128, .f32⟩
  | .local _ .vmem, ⟨5, _⟩ => ⟨S128x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x7168 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefQuantIdeal.lean ====
abbrev S8192x7168 : Shape := ⟨2, ![8192, 7168]⟩
abbrev S8192x128 : Shape := ⟨2, ![8192, 128]⟩
abbrev S8192 : Shape := ⟨1, ![8192]⟩
abbrev S8192x1 : Shape := ⟨2, ![8192, 1]⟩

abbrev nBuf : Space → Nat
  | .hbm => 3
  | .vmem => 3
  | .smem => 0
  | _ => 0

abbrev bufTy : (tb : Table) → Fin (tcTables nBuf tb) → BufTy
  | .hbm, ⟨0, _⟩ => ⟨S8192x7168, .bf16⟩
  | .hbm, ⟨1, _⟩ => ⟨S8192x7168, .fp8e4m3⟩
  | .hbm, ⟨2, _⟩ => ⟨S8192x128, .f32⟩
  | .local _ .vmem, ⟨0, _⟩ => ⟨S8192x7168, .bf16⟩
  | .local _ .vmem, ⟨1, _⟩ => ⟨S8192x7168, .fp8e4m3⟩
  | .local _ .vmem, ⟨2, _⟩ => ⟨S8192x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Scale.lean ====
/-
  The power-of-two scale of a row, as mathematics on the extended reals.

  The kernel finds the exponent of `y` by eight comparisons with powers of two (`search`) and builds the scale and its
  reciprocal from the exponent's bits (`up`, `down`); the reference takes the exponent from a logarithm (`refExp`) and
  raises two to it. For `0 ≤ y ≤ 2 ^ 120` — and every row maximum divided by 448 and cut at `2 ^ 120` is such a `y` —
  the two agree: `up_eq`, `down_eq`.
-/
module

public import Idealize.ShloMosaic.PureOps.Ideal.Laws
public import Idealize.ShloMosaic.Lib.Pointwise
public import Mathlib.Analysis.SpecialFunctions.Log.Basic
public import Mathlib.Tactic.Linarith
public import Mathlib.Tactic.Positivity
public import Mathlib.Tactic.NormNum

@[expose] public section

noncomputable section

open Idealize.ShloMosaic

namespace Cert.Scale

/-! ## The definitions -/

/-- The float whose biased exponent field is `t` and whose fraction is zero. -/
def pow2 (t : BitVec 32) : EReal := Ideal.ofBits .f32 (IntOp.shli .vector t 23#32)

/-- One comparison of the search: the bit `k` is kept when `y` reaches the power of two it leads to. -/
def step (y : EReal) (b k : BitVec 32) : BitVec 32 :=
  Scalar.select (Ideal.cmp .oge y (pow2 (IntOp.addi b k))) (IntOp.addi b k) b

/-- The biased exponent of `y`, found from its highest bit down. -/
def search (y : EReal) : BitVec 32 :=
  step y (step y (step y (step y (step y (step y (step y (step y 0#32 128#32) 64#32) 32#32) 16#32) 8#32) 4#32) 2#32) 1#32

/-- The exponent of the scale: nought below the smallest normal float, else one more than the exponent of `y`. -/
def expWord (y : EReal) : BitVec 32 :=
  Scalar.select (IntOp.cmpi .eq (search y) 0#32) 0#32 (IntOp.subi (search y) 126#32)

/-- The scale the kernel builds. -/
def up (y : EReal) : EReal := pow2 (IntOp.addi (expWord y) 127#32)
/-- Its reciprocal, built the same way. -/
def down (y : EReal) : EReal := pow2 (IntOp.subi 127#32 (expWord y))

/-- The exponent of the scale as the reference takes it. -/
def refExp (y : EReal) : EReal :=
  Scalar.select (Ideal.cmp .olt y (Ideal.ofBits .f32 0x00800000#32)) (Ideal.ofBits .f32 0x00000000#32)
    (Ideal.liftRound Int.floor (Ideal.div (Ideal.log y) (Ideal.log (Ideal.ofBits .f32 0x40000000#32)))
      + Ideal.ofBits .f32 0x3F800000#32)

/-- The row maximum times the float nearest 1/448, cut at `2 ^ 120`. -/
def cut (a : EReal) : EReal := min (a * Ideal.ofBits .f32 0x3B124925#32) (Ideal.ofBits .f32 0x7B800000#32)

/-! ## The constants -/

theorem pow2_eq (n : Nat) (h0 : 0 < n) (h : n < 255) : pow2 (BitVec.ofNat 32 n) = (((2 : ℝ) ^ ((n : ℤ) - 127) : ℝ) : EReal) := by
  have e : ∀ n : Fin 255,
      ((IntOp.shli .vector (BitVec.ofNat 32 n) 23#32).extractLsb' 31 1 == 1#1) = false
      ∧ ((IntOp.shli .vector (BitVec.ofNat 32 n) 23#32).extractLsb' 23 8).toNat = n
      ∧ ((IntOp.shli .vector (BitVec.ofNat 32 n) 23#32).extractLsb' 0 23).toNat = 0 := by decide +kernel
  obtain ⟨e1, e2, e3⟩ := e ⟨n, h⟩
  simp only [] at e1 e2 e3
  show Ideal.ieee 8 23 (IntOp.shli .vector (BitVec.ofNat 32 n) 23#32) = _
  unfold Ideal.ieee
  simp only [Nat.reduceAdd, e1, e2, e3]
  rw [if_neg (by omega), if_neg (by omega)]
  refine congrArg Real.toEReal ?_
  rw [show ((n : ℤ) - 127) = (23 : ℤ) + ((n : ℤ) - (2 ^ (8 - 1) - 1) - ((23 : ℕ) : ℤ)) by push_cast; omega, zpow_add₀ (by norm_num : (2 : ℝ) ≠ 0),
    if_neg (by decide), one_mul]
  refine congrArg₂ (· * ·) ?_ rfl
  norm_num

theorem ofBits_min : Ideal.ofBits .f32 0x00800000#32 = (((2 : ℝ) ^ (-126 : ℤ) : ℝ) : EReal) := pow2_eq 1 (by omega) (by omega)
theorem ofBits_cap : Ideal.ofBits .f32 0x7B800000#32 = (((2 : ℝ) ^ (120 : ℤ) : ℝ) : EReal) := pow2_eq 247 (by omega) (by omega)
theorem ofBits_one : Ideal.ofBits .f32 0x3F800000#32 = ((1 : ℝ) : EReal) := (pow2_eq 127 (by omega) (by omega)).trans (by norm_num)
theorem ofBits_two : Ideal.ofBits .f32 0x40000000#32 = ((2 : ℝ) : EReal) := (pow2_eq 128 (by omega) (by omega)).trans (by norm_num)
theorem ofBits_zero : Ideal.ofBits .f32 0x00000000#32 = ((0 : ℝ) : EReal) := by
  show Ideal.ieee 8 23 (0x00000000#32) = _
  simp [Ideal.ieee]

/-! ## The search -/

/-- The search ends at `n` when `y` reaches exactly the powers of two up to the `n`th. -/
theorem search_eq (y : EReal) (n : Nat) (hn : n ≤ 247)
    (h : ∀ t : Nat, 0 < t → t < 255 → (pow2 (BitVec.ofNat 32 t) ≤ y ↔ t ≤ n)) : search y = BitVec.ofNat 32 n := by
  have hs : ∀ b k : Nat, 0 < k → b + k < 255 → step y (BitVec.ofNat 32 b) (BitVec.ofNat 32 k)
      = BitVec.ofNat 32 (if b + k ≤ n then b + k else b) := by
    intro b k hk hb
    have ha : IntOp.addi (BitVec.ofNat 32 b) (BitVec.ofNat 32 k) = BitVec.ofNat 32 (b + k) := (BitVec.ofNat_add b k).symm
    unfold step
    rw [ha]
    unfold Scalar.select Ideal.cmp
    have hh := h (b + k) (by omega) hb
    by_cases hc : b + k ≤ n
    · rw [if_pos hc]
      have : pow2 (BitVec.ofNat 32 (b + k)) ≤ y := hh.2 hc
      simp [this]
    · rw [if_neg hc]
      have : ¬ pow2 (BitVec.ofNat 32 (b + k)) ≤ y := fun hq => hc (hh.1 hq)
      simp [this]
  unfold search
  rw [hs 0 128 (by omega) (by omega)]
  rw [hs _ 64 (by omega) (by split <;> omega)]
  rw [hs _ 32 (by omega) (by repeat' split
                             all_goals omega)]
  rw [hs _ 16 (by omega) (by repeat' split
                             all_goals omega)]
  generalize hb : (if (if (if (if 0 + 128 ≤ n then 0 + 128 else 0) + 64 ≤ n then (if 0 + 128 ≤ n then 0 + 128 else 0) + 64 else (if 0 + 128 ≤ n then 0 + 128 else 0)) + 32 ≤ n
      then (if (if 0 + 128 ≤ n then 0 + 128 else 0) + 64 ≤ n then (if 0 + 128 ≤ n then 0 + 128 else 0) + 64 else (if 0 + 128 ≤ n then 0 + 128 else 0)) + 32
      else (if (if 0 + 128 ≤ n then 0 + 128 else 0) + 64 ≤ n then (if 0 + 128 ≤ n then 0 + 128 else 0) + 64 else (if 0 + 128 ≤ n then 0 + 128 else 0))) + 16 ≤ n
      then _ else _ : Nat) = b4
  have h4 : b4 ≤ n ∧ n < b4 + 16 ∧ b4 ≤ 240 := by
    subst hb
    repeat' split
    all_goals omega
  clear hb
  rw [hs b4 8 (by omega) (by omega)]
  generalize hb : (if b4 + 8 ≤ n then b4 + 8 else b4) = b3
  have h3 : b3 ≤ n ∧ n < b3 + 8 := by split at hb <;> omega
  rw [hs b3 4 (by omega) (by omega)]
  generalize hb : (if b3 + 4 ≤ n then b3 + 4 else b3) = b2
  have h2 : b2 ≤ n ∧ n < b2 + 4 := by split at hb <;> omega
  rw [hs b2 2 (by omega) (by omega)]
  generalize hb : (if b2 + 2 ≤ n then b2 + 2 else b2) = b1
  have h1 : b1 ≤ n ∧ n < b1 + 2 := by split at hb <;> omega
  rw [hs b1 1 (by omega) (by omega)]
  congr 1
  split <;> omega

/-- What both sides take from `y`: a whole exponent `e` between -125 and 121, as the search's word and as the logarithm's
    value. -/
theorem exponent (y : EReal) (h0 : 0 ≤ y) (h1 : y ≤ Ideal.ofBits .f32 0x7B800000#32) :
    ∃ e : ℤ, -125 ≤ e ∧ e ≤ 121 ∧ expWord y = BitVec.ofInt 32 e ∧ refExp y = ((e : ℝ) : EReal) := by
  rw [ofBits_cap] at h1
  induction y with
  | bot => simp at h0
  | top => exact absurd h1 (not_le.2 (EReal.coe_lt_top _))
  | coe r =>
    have hr0 : 0 ≤ r := by exact_mod_cast h0
    have hr1 : r ≤ (2 : ℝ) ^ (120 : ℤ) := by exact_mod_cast h1
    by_cases hlt : r < (2 : ℝ) ^ (-126 : ℤ)
    · refine ⟨0, by omega, by omega, ?_, ?_⟩
      · have : search (r : EReal) = BitVec.ofNat 32 0 := by
          refine search_eq _ 0 (by omega) fun t ht0 ht => ?_
          rw [pow2_eq t ht0 ht, EReal.coe_le_coe_iff]
          constructor
          · intro hle
            have : (2 : ℝ) ^ (-126 : ℤ) ≤ (2 : ℝ) ^ ((t : ℤ) - 127) := zpow_le_zpow_right₀ (by norm_num) (by omega)
            linarith
          · intro hle; omega
        unfold expWord
        rw [this]
        decide
      · unfold refExp
        rw [ofBits_min, ofBits_zero]
        unfold Scalar.select Ideal.cmp
        have : (r : EReal) < (((2 : ℝ) ^ (-126 : ℤ) : ℝ) : EReal) := EReal.coe_lt_coe_iff.2 hlt
        rw [if_pos (by rw [decide_eq_true this]; rfl)]
        simp
    · have hge : (2 : ℝ) ^ (-126 : ℤ) ≤ r := not_lt.1 hlt
      have hpos : 0 < r := lt_of_lt_of_le (by positivity) hge
      have hlog2 : 0 < Real.log 2 := Real.log_pos (by norm_num : (1 : ℝ) < 2)
      obtain ⟨g, hf⟩ : ∃ g : ℤ, ⌊Real.log r / Real.log 2⌋ = g := ⟨_, rfl⟩
      have hl : ∀ x : ℤ, (2 : ℝ) ^ x ≤ r ↔ x ≤ g := fun x => by
        rw [← hf, Int.le_floor, le_div_iff₀ hlog2, ← Real.log_zpow, Real.log_le_log_iff (by positivity) hpos]
      have hg0 : -126 ≤ g := (hl _).1 hge
      have hg1 : g ≤ 120 := by
        by_contra hc
        have h2 : (2 : ℝ) ^ (121 : ℤ) ≤ r := (hl _).2 (by omega)
        have h3 : (2 : ℝ) ^ (120 : ℤ) < (2 : ℝ) ^ (121 : ℤ) := zpow_lt_zpow_right₀ (by norm_num) (by norm_num)
        linarith
      refine ⟨g + 1, by omega, by omega, ?_, ?_⟩
      · obtain ⟨n, hn⟩ : ∃ n : Nat, (n : ℤ) = g + 127 := ⟨(g + 127).toNat, by omega⟩
        have : search (r : EReal) = BitVec.ofNat 32 n := by
          refine search_eq _ n (by omega) fun t ht0 ht => ?_
          rw [pow2_eq t ht0 ht, EReal.coe_le_coe_iff, hl]
          omega
        unfold expWord
        rw [this, show g + 1 = (n : ℤ) - 126 by omega]
        have key : ∀ n : Fin 248, 0 < (n : Nat) → Scalar.select (IntOp.cmpi .eq (BitVec.ofNat 32 n) 0#32) 0#32
            (IntOp.subi (BitVec.ofNat 32 n) 126#32) = BitVec.ofInt 32 ((n : ℤ) - 126) := by decide +kernel
        exact key ⟨n, by omega⟩ (by simp only []; omega)
      · unfold refExp
        rw [ofBits_min, ofBits_zero, ofBits_one, ofBits_two]
        unfold Scalar.select Ideal.cmp
        have : ¬ (r : EReal) < (((2 : ℝ) ^ (-126 : ℤ) : ℝ) : EReal) := fun h => hlt (EReal.coe_lt_coe_iff.1 h)
        simp only [this, decide_false, BitVec.ofBool_false]
        rw [if_neg (by decide), Ideal.log_coe, if_neg (by linarith), Ideal.log_coe, if_neg (by norm_num),
          Ideal.div_coe hlog2.ne', ← EReal.coe_mul, Ideal.liftRound_coe, mul_one_div, hf]
        push_cast
        rfl

theorem pow2_int (t : ℤ) (h0 : 0 < t) (h1 : t < 255) : pow2 (BitVec.ofInt 32 t) = (((2 : ℝ) ^ (t - 127) : ℝ) : EReal) := by
  obtain ⟨n, rfl⟩ : ∃ n : Nat, t = (n : ℤ) := ⟨t.toNat, by omega⟩
  rw [BitVec.ofInt_natCast]
  exact pow2_eq n (by omega) (by omega)

/-- The scale built from the searched exponent is two to the reference's exponent, -/
theorem up_eq (y : EReal) (h0 : 0 ≤ y) (h1 : y ≤ Ideal.ofBits .f32 0x7B800000#32) : up y = Ideal.exp2 (refExp y) := by
  obtain ⟨e, l, u, hw, hr⟩ := exponent y h0 h1
  unfold up
  rw [hw, hr, Ideal.exp2_coe]
  rw [show IntOp.addi (BitVec.ofInt 32 e) 127#32 = BitVec.ofInt 32 (e + 127) from (BitVec.ofInt_add e 127).symm,
    pow2_int _ (by omega) (by omega)]
  congr 1
  rw [show e + 127 - 127 = e by omega]
  exact (Real.rpow_intCast 2 e).symm

/-- and the reciprocal is two to its negative. -/
theorem down_eq (y : EReal) (h0 : 0 ≤ y) (h1 : y ≤ Ideal.ofBits .f32 0x7B800000#32) :
    down y = Ideal.exp2 (Ideal.ofBits .f32 0x00000000#32 - refExp y) := by
  obtain ⟨e, l, u, hw, hr⟩ := exponent y h0 h1
  unfold down
  rw [hw, hr, ofBits_zero, ← EReal.coe_sub, Ideal.exp2_coe]
  have hsub : IntOp.subi 127#32 (BitVec.ofInt 32 e) = BitVec.ofInt 32 (127 - e) := by
    rw [show (127#32) = BitVec.ofInt 32 127 by decide]
    show BitVec.ofInt 32 127 - BitVec.ofInt 32 e = _
    rw [sub_eq_add_neg (127 : ℤ) e, BitVec.ofInt_add, BitVec.ofInt_neg]
    exact BitVec.sub_eq_add_neg _ _
  rw [hsub, pow2_int _ (by omega) (by omega)]
  congr 1
  rw [show 127 - e - 127 = -e by omega, zero_sub, ← Int.cast_neg]
  exact (Real.rpow_intCast 2 (-e)).symm

/-! ## The same on whole vectors, as the programs spell it -/

section Vectors
variable {s : Shape}

theorem step_vec (y : FVec Ideal s .f32) (b : IVec s 32) (B : s.Idx → BitVec 32) (k : BitVec 32) (h : b = B) :
    select (cmpf .oge y (bitcastToFloat .f32 (shli (addi b (broadcast s k)) (broadcast s 23#32)))) (addi b (broadcast s k)) b
      = fun j => step (y j) (B j) k := by subst h; rfl

theorem expWord_vec (y : s.Idx → EReal) (b : IVec s 32) (h : b = fun j => search (y j)) :
    select (cmpi .eq b (broadcast s 0#32)) (broadcast s 0#32) (subi b (broadcast s 126#32)) = fun j => expWord (y j) := by
  subst h; rfl

theorem up_vec (y : s.Idx → EReal) (e : IVec s 32) (h : e = fun j => expWord (y j)) :
    (bitcastToFloat .f32 (shli (addi e (broadcast s 127#32)) (broadcast s 23#32)) : FVec Ideal s .f32) = fun j => up (y j) := by
  subst h; rfl

theorem down_vec (y : s.Idx → EReal) (e : IVec s 32) (h : e = fun j => expWord (y j)) :
    (bitcastToFloat .f32 (shli (subi (broadcast s 127#32) e) (broadcast s 23#32)) : FVec Ideal s .f32) = fun j => down (y j) := by
  subst h; rfl

theorem minimumf_fun (a b : FVec Ideal s .f32) : minimumf a b = fun j => min (a j) (b j) := rfl
theorem mulf_fun (a b : FVec Ideal s .f32) : mulf a b = fun j => a j * b j := rfl
theorem ofBits_word (b : BitVec 32) : (FloatOps.ofBits .f32 b : Ideal .f32) = Ideal.ofBits .f32 b := rfl

theorem cut_vec (a : FVec Ideal s .f32) :
    minimumf (mulf a (broadcast s (FloatOps.ofBits .f32 0x3B124925#32))) (broadcast s (FloatOps.ofBits .f32 0x7B800000#32))
      = fun j => cut (a j) := by
  rw [minimumf_fun, mulf_fun]
  simp only [cut, ofBits_word, broadcast]

theorem refExp_vec (y : FVec Ideal s .f32) :
    select (cmpf .olt y (broadcast s (FloatOps.ofBits .f32 0x00800000#32))) (broadcast s (FloatOps.ofBits .f32 0x00000000#32))
      (addf (floor (divf (log y) (log (broadcast s (FloatOps.ofBits .f32 0x40000000#32))))) (broadcast s (FloatOps.ofBits .f32 0x3F800000#32)))
      = fun j => refExp (y j) := by
  funext j
  simp only [refExp, ofBits_word, broadcast, select, cmpf, addf, floor, divf, log, FloatOps.addf, FloatOps.floor, FloatOps.divf, FloatOps.log, FloatOps.cmpf]

end Vectors

/-! ## The argument: a row maximum over 448, cut at `2 ^ 120` -/

theorem cut_le (a : EReal) : cut a ≤ Ideal.ofBits .f32 0x7B800000#32 := min_le_right _ _

theorem cut_nonneg (a : EReal) (h : 0 ≤ a) : 0 ≤ cut a := by
  refine le_min (mul_nonneg h ?_) ?_
  · show 0 ≤ Ideal.ieee 8 23 0x3B124925#32
    unfold Ideal.ieee
    have e1 : ((0x3B124925#32).extractLsb' (8 + 23) 1 == 1#1) = false := by decide
    have e2 : ((0x3B124925#32).extractLsb' 23 8).toNat = 118 := by decide
    simp only [e1, e2]
    rw [if_neg (by omega), if_neg (by omega)]
    exact EReal.coe_nonneg.2 (by simp only [Bool.false_eq_true, if_false]; positivity)
  · rw [ofBits_cap]; exact EReal.coe_nonneg.2 (by positivity)

/-- The scale of a row whose largest magnitude is `a`, and its reciprocal. -/
theorem up_cut (a : EReal) (h : 0 ≤ a) : up (cut a) = Ideal.exp2 (refExp (cut a)) := up_eq _ (cut_nonneg a h) (cut_le a)
theorem down_cut (a : EReal) (h : 0 ≤ a) :
    down (cut a) = Ideal.exp2 (Ideal.ofBits .f32 0x00000000#32 - refExp (cut a)) := down_eq _ (cut_nonneg a h) (cut_le a)

/-- A maximum of magnitudes over at least one element is not negative. -/
theorem fold_abs_nonneg {n : Nat} (hn : 0 < n) (b : EReal) (f : Fin n → EReal) :
    0 ≤ (Finset.univ : Finset (Fin n)).fold max b (fun k => max (f k) (-(f k))) := by
  have h : 0 ≤ max (f ⟨0, hn⟩) (-(f ⟨0, hn⟩)) := by
    rcases le_total 0 (f ⟨0, hn⟩) with h | h
    · exact le_max_of_le_left h
    · exact le_max_of_le_right (EReal.neg_nonneg.2 h)
  exact (Finset.le_fold_max 0).2 (Or.inr ⟨⟨0, hn⟩, Finset.mem_univ _, h⟩)

/-! ## A quantised row -/

/-- The largest magnitude in row `r` of `x`. -/
def rowMax {n K : Nat} (x : (⟨2, ![n, K]⟩ : Shape).Idx → EReal) (r : Fin n) : EReal :=
  (Finset.univ : Finset (Fin K)).fold max (Ideal.ofBits .f32 0xFF800000#32)
    (fun k => max (x (ix2 r k)) (-(x (ix2 r k))))

theorem rowMax_nonneg {n K : Nat} (hK : 0 < K) (x : (⟨2, ![n, K]⟩ : Shape).Idx → EReal) (r : Fin n) : 0 ≤ rowMax x r :=
  fold_abs_nonneg hK _ _

/-- Two rows with the same elements have the same largest magnitude. -/
theorem rowMax_congr {n n' K : Nat} (x : (⟨2, ![n, K]⟩ : Shape).Idx → EReal) (x' : (⟨2, ![n', K]⟩ : Shape).Idx → EReal) (r : Fin n) (r' : Fin n')
    (h : ∀ k : Fin K, x (ix2 r k) = x' (ix2 r' k)) : rowMax x r = rowMax x' r' := by
  unfold rowMax
  congr 1
  funext k
  rw [h k]

/-- A value times the reciprocal `d` of its row's scale, cut to ±448. -/
def code (d v : EReal) : EReal := min (Ideal.ofBits .f32 0x43E00000#32) (max (Ideal.ofBits .f32 0xC3E00000#32) (v * d))

/-- The exponent of the scale of a row of `x`, -/
def rowExp {n K : Nat} (x : (⟨2, ![n, K]⟩ : Shape).Idx → EReal) (r : Fin n) : EReal := refExp (cut (rowMax x r))
/-- its scale, -/
def rowScale {n K : Nat} (x : (⟨2, ![n, K]⟩ : Shape).Idx → EReal) (r : Fin n) : EReal := Ideal.exp2 (rowExp x r)
/-- and the reciprocal of its scale. -/
def rowInv {n K : Nat} (x : (⟨2, ![n, K]⟩ : Shape).Idx → EReal) (r : Fin n) : EReal :=
  Ideal.exp2 (Ideal.ofBits .f32 0x00000000#32 - rowExp x r)

theorem up_row {n K : Nat} (hK : 0 < K) (x : (⟨2, ![n, K]⟩ : Shape).Idx → EReal) (r : Fin n) : up (cut (rowMax x r)) = rowScale x r :=
  up_cut _ (rowMax_nonneg hK x r)
theorem down_row {n K : Nat} (hK : 0 < K) (x : (⟨2, ![n, K]⟩ : Shape).Idx → EReal) (r : Fin n) : down (cut (rowMax x r)) = rowInv x r :=
  down_cut _ (rowMax_nonneg hK x r)

end Cert.Scale
-- ==== Proof.QuantValue.lean ====
/-
  The first call, which quantises the tokens: the kernel's codes and scales are the reference's.

  Both programs' runs are the generated ones. Here each program's stores are read at an index (`codes`, `scales` as functions of
  the argument), block by block for the kernel, and the two readings are one function.
-/
module

public import proofs.«01_k».proof.Defs
public import proofs.«01_k».proof.Proof.Scale
public import proofs.«01_k».proof.Proof.Gen.QuantIdeal.Frame
public import proofs.«01_k».proof.Proof.Gen.RefQuantIdeal.Frame
public import Idealize.ShloMosaic.Lib.Pipeline.Value
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.Pointwise

/-! ## The reference -/

namespace Cert.RefQuantIdeal.RefValue
open Cert.RefQuantIdeal Cert.RefQuantIdeal.Gen Cert.Scale

variable (m : (ℓ : Loc nD τ sig) → Buf (Elt Ideal) ℓ) (ρ : Dev nD → PrngReg)

/-- The codes of the tokens, -/
def codes (x : S8192x7168.Idx → EReal) : S8192x7168.Idx → EReal := fun i => code (rowInv (n := 8192) (K := 7168) x (i 0)) (x i)
/-- and their scales, one per row. -/
def scales (x : S8192x7168.Idx → EReal) : S8192x128.Idx → EReal := fun i => rowScale (n := 8192) (K := 7168) x (i 0)

theorem hz : (![0, 0] : Fin 2 → Nat) = fun _ => 0 := funext fun a => by fin_cases a <;> rfl

theorem amax_apply (x : FVec Ideal S8192x7168 .f32) (j : S8192x1.Idx) :
    shapeCast S8192x1 (multiReduction .maximumf [1] S8192 (absf x) 0xFF800000#32 reduces_S8192x7168_S8192 (.inl rfl) rfl) shapeCasts_S8192_S8192x1 j
      = rowMax (n := 8192) (K := 7168) x (j 0) := by
  unfold rowMax
  pointwise
  rfl

theorem pay2_eq (x : Vec Ideal S8192x7168 .bf16) : k0_pay2 x = fun j => rowExp (n := 8192) (K := 7168) x (j 0) := by
  have e : k0_pay1 x = x := rfl
  unfold k0_pay2
  rw [e]
  exact (refExp_vec _).trans (funext fun j => congrArg refExp ((congrFun (cut_vec _) j).trans (congrArg cut (amax_apply x j))))

theorem exp2_fun {s : Shape} (a : FVec Ideal s .f32) : exp2 a = fun j => Ideal.exp2 (a j) := rfl

theorem pay3_eq (x : Vec Ideal S8192x7168 .bf16) : k0_pay3 x = codes x := by
  have e : k0_pay1 x = x := rfl
  funext j
  unfold k0_pay3
  rw [e, pay2_eq, exp2_fun]
  unfold codes code rowInv
  generalize rowExp (n := 8192) (K := 7168) x = R
  pointwise
  try rfl

theorem pay4_eq (x : Vec Ideal S8192x7168 .bf16) : k0_pay4 x = scales x := by
  funext j
  unfold k0_pay4
  rw [pay2_eq, exp2_fun]
  unfold scales rowScale
  generalize rowExp (n := 8192) (K := 7168) x = R
  pointwise
  try rfl

/-- The reference has one grid point. -/
abbrev zeroth : Fin cfg0.N := ⟨0, by rw [show cfg0.N = 1 from N_0]; decide⟩

theorem index0 (w : Fin cfg0.W) (t : Fin cfg0.N) : (fun a => (cfg0.win w).index t a * (cfg0.win w).size a) = fun _ => 0 := by
  funext a; rcases fin_N0 t with rfl; revert a; revert w; decide +kernel

theorem iblk_eq (c : Dev nD) (t : Fin cfg0.N) : (iblk m c 0 t : Vec Ideal S8192x7168 .bf16) = m ((c : Thread nD τ).loc main_arg0) := by
  have h := index0 0 t
  exact Memref.read_access_unit_zero (Elt Ideal) main_arg0 h (fun a => by rw [congrFun h a]; simp) (V m c main_arg0)

theorem final1 (c : Dev nD) : (dats m 0 c).arrAt 1 cfg0.N = codes (m ((c : Thread nD τ).loc main_arg0)) := by
  refine (dats m 0 c).arrAt_eq_of_cover 1 _ (fun t _ => ?_) fun i => ⟨zeroth, flush0_1 _, ?_⟩
  · show (cfg0.win 1).cut (grid0.coords t) ((dats m 0 c).after 1 t) = _
    rw [after0_1]
    unfold out0_1
    rw [View.canon_unit_zero hz, View.ld_unit_zero hz, pay3_eq, iblk_eq]
    have h := index0 1 t
    exact (Memref.read_access_unit_zero (Elt Ideal) main_v0_0 h (fun a => by rw [congrFun h a]; simp) _).symm
  · show i ∈ ((View.whole main_v0_0).slice (win0_1.rect zeroth)).set
    rw [View.set_slice_whole, Rect.mem_set_unit]
    intro a
    have hx : ∀ a, win0_1.xsize (grid0.coords zeroth) a = main_v0_0.ty.shape.size a := by decide +kernel
    have h := congrFun (index0 1 zeroth) a
    have hi := (i a).isLt
    exact ⟨h.le.trans (Nat.zero_le _), by rw [hx a]; exact lt_of_lt_of_le hi (Nat.le_add_left _ _)⟩

theorem final2 (c : Dev nD) : (dats m 0 c).arrAt 2 cfg0.N = scales (m ((c : Thread nD τ).loc main_arg0)) := by
  refine (dats m 0 c).arrAt_eq_of_cover 2 _ (fun t _ => ?_) fun i => ⟨zeroth, flush0_2 _, ?_⟩
  · show (cfg0.win 2).cut (grid0.coords t) ((dats m 0 c).after 2 t) = _
    rw [after0_2]
    unfold out0_2
    rw [View.canon_unit_zero hz, View.ld_unit_zero hz, pay4_eq, iblk_eq]
    have h := index0 2 t
    exact (Memref.read_access_unit_zero (Elt Ideal) main_v0_1 h (fun a => by rw [congrFun h a]; simp) _).symm
  · show i ∈ ((View.whole main_v0_1).slice (win0_2.rect zeroth)).set
    rw [View.set_slice_whole, Rect.mem_set_unit]
    intro a
    have hx : ∀ a, win0_2.xsize (grid0.coords zeroth) a = main_v0_1.ty.shape.size a := by decide +kernel
    have h := congrFun (index0 2 zeroth) a
    have hi := (i a).isLt
    exact ⟨h.le.trans (Nat.zero_le _), by rw [hx a]; exact lt_of_lt_of_le hi (Nat.le_add_left _ _)⟩

/-- The reference's run: its two results are the codes and the scales of its argument, which it leaves unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (m ((c : Thread nD τ).loc main_arg0))
      ∧ r.2.mem ((c : Thread nD τ).loc main_arg0) = m ((c : Thread nD τ).loc main_arg0) :=
  (θ_run defs _ _).mono (fun _ h c => ⟨((h c).1 1).trans (final1 m c), ((h c).1 2).trans (final2 m c),
      ((h c).1 0).trans ((dats m 0 c).arrAt_in 0 rfl _)⟩)
    (run_main m ρ)

end Cert.RefQuantIdeal.RefValue

/-! ## The kernel -/

namespace Cert.QuantIdeal.RefValue
open Cert.QuantIdeal Cert.QuantIdeal.Gen Cert.Scale

variable (m : (ℓ : Loc nD τ sig) → Buf (Elt Ideal) ℓ) (ρ : Dev nD → PrngReg)

abbrev codes := Cert.RefQuantIdeal.RefValue.codes
abbrev scales := Cert.RefQuantIdeal.RefValue.scales

theorem hz : (![0, 0] : Fin 2 → Nat) = fun _ => 0 := funext fun a => by fin_cases a <;> rfl

theorem amax_apply (x : FVec Ideal S128x7168 .f32) (j : S128x128.Idx) :
    broadcastTo S128x128 (shapeCast S128x1 (shapeCast S128x1 (multiReduction .maximumf [1] S128 (absf x) 0xFF800000#32 reduces_S128x7168_S128 (.inl rfl) rfl) shapeCasts_S128_S128x1)
     shapeCasts_S128x1_S128x1) broadcasts_S128x1_S128x128 j
      = rowMax (n := 128) (K := 7168) x (j 0) := by
  unfold rowMax
  pointwise
  rfl

theorem pay2_eq (x : Vec Ideal S128x7168 .bf16) : k0_pay2 x = fun j => cut (rowMax (n := 128) (K := 7168) x (j 0)) := by
  have e : (extf .f32 (absf x) bitsLt_bf16_f32 : FVec Ideal S128x7168 .f32) = absf (F := Ideal) (φ := .f32) x := rfl
  unfold k0_pay2
  simp only [e]
  exact (cut_vec _).trans (funext fun j => congrArg cut (amax_apply x j))

/-- The searched exponent of every row, at each of its 128 lanes. -/
theorem pay6_eq (x : Vec Ideal S128x7168 .bf16) :
    k0_pay6 (k0_pay2 x) (k0_pay3 x) (k0_pay4 x) k0_pay5 = fun j => expWord (k0_pay2 x j) := by
  have h3 : k0_pay3 x = fun j => step (k0_pay2 x j) (step (k0_pay2 x j) (step (k0_pay2 x j) (step (k0_pay2 x j) 0#32 128#32) 64#32) 32#32) 16#32 := by
    unfold k0_pay3
    generalize k0_pay2 x = y
    dsimp only
    exact step_vec _ _ _ _ (step_vec _ _ _ _ (step_vec _ _ _ _ (step_vec _ _ _ _ rfl)))
  unfold k0_pay6 k0_pay4 k0_pay5
  generalize k0_pay3 x = b at h3 ⊢
  generalize k0_pay2 x = y at h3 ⊢
  dsimp only
  rw [step_vec y _ _ _ (step_vec y _ _ _ (step_vec y _ _ _ (step_vec y _ _ _ h3)))]
  exact expWord_vec y _ rfl

theorem pay7_eq (x : Vec Ideal S128x7168 .bf16) :
    k0_pay7 (k0_pay2 x) (k0_pay3 x) (k0_pay4 x) k0_pay5 = fun j => rowScale (n := 128) (K := 7168) x (j 0) := by
  unfold k0_pay7
  simp only []
  rw [up_vec (k0_pay2 x) _ (pay6_eq x), pay2_eq]
  funext j
  exact up_row (by decide) x (j 0)

theorem pay1_eq (x : Vec Ideal S128x7168 .bf16) :
    k0_pay1 (k0_pay8 x) (k0_pay9 (k0_pay2 x) (k0_pay3 x) (k0_pay4 x) k0_pay5)
      = fun j => code (rowInv (n := 128) (K := 7168) x (j 0)) (x j) := by
  have h8 : k0_pay8 x = x := rfl
  have h9 : ∀ y : FVec Ideal S128x128 .f32, (∀ j, y j = rowInv (n := 128) (K := 7168) x (j 0)) →
      k0_pay1 (F := Ideal) x (extractStridedSlice S128x1 ![0, 0] y slices_S128x128_o0_0_S128x1)
        = fun j => code (rowInv (n := 128) (K := 7168) x (j 0)) (x j) := by
    intro y hy
    funext j
    refine Eq.trans ?_ (congrArg (fun d => code d (x j)) (hy (ix2 (j 0) (⟨0, by decide⟩ : Fin 128))))
    unfold code
    pointwise [k0_pay1]
    try rfl
  rw [h8]
  unfold k0_pay9
  simp only []
  rw [down_vec (k0_pay2 x) _ (pay6_eq x)]
  refine h9 _ fun j => ?_
  rw [pay2_eq]
  exact down_row (by decide) x (j 0)

theorem index_eq : ∀ t : Fin cfg0.N, win0_0.index t 0 = t.val ∧ win0_0.index t 1 = 0 ∧ win0_1.index t 0 = t.val ∧ win0_1.index t 1 = 0
    ∧ win0_2.index t 0 = t.val ∧ win0_2.index t 1 = 0 := by decide +kernel

/-- Row `r` of the block at point `t` is row `128 t + r` of the array. -/
theorem row_lt (t : Fin cfg0.N) (r : Fin 128) : t.val * 128 + r.val < 8192 := by
  have h := t.isLt
  have hN : cfg0.N = 64 := N_0
  have := r.isLt
  omega

theorem iblk_apply (c : Dev nD) (t : Fin cfg0.N) (r : Fin 128) (k : Fin 7168) :
    (iblk m c 0 t : Vec Ideal S128x7168 .bf16) (ix2 r k)
      = m ((c : Thread nD τ).loc main_arg0) (ix2 (⟨t.val * 128 + r.val, row_lt t r⟩ : Fin 8192) k) := by
  obtain ⟨h0, h1, -⟩ := index_eq t
  unfold iblk
  rw [View.read_apply]
  show V m c main_arg0 _ = m (c.tc.loc main_arg0) _
  unfold V
  congr 1
  funext a
  apply Fin.ext
  match a with
  | ⟨0, _⟩ => show win0_0.index t 0 * 128 + 1 * r.val = t.val * 128 + r.val; rw [h0]; omega
  | ⟨1, _⟩ => show win0_0.index t 1 * 7168 + 1 * k.val = k.val; rw [h1]; omega

theorem row_eq (c : Dev nD) (t : Fin cfg0.N) (r : Fin 128) :
    rowMax (n := 128) (K := 7168) (iblk m c 0 t) r
      = rowMax (n := 8192) (K := 7168) (m ((c : Thread nD τ).loc main_arg0)) ⟨t.val * 128 + r.val, row_lt t r⟩ :=
  rowMax_congr _ _ _ _ fun k => iblk_apply m c t r k

theorem final1 (c : Dev nD) : (dats m 0 c).arrAt 1 cfg0.N = codes (m ((c : Thread nD τ).loc main_arg0)) := by
  have hN : cfg0.N = 64 := N_0
  refine (dats m 0 c).arrAt_eq_of_cover 1 _ (fun t _ => ?_) fun i => ?_
  · show (cfg0.win 1).cut (grid0.coords t) ((dats m 0 c).after 1 t) = _
    rw [after0_1]
    unfold out0_1 k0_pay10 k0_pay11 k0_pay12 k0_pay13
    rw [View.canon_unit_zero hz, View.ld_unit_zero hz, pay1_eq]
    obtain ⟨-, -, h0, h1, -⟩ := index_eq t
    funext j
    obtain ⟨r, k, rfl⟩ : ∃ (r : Fin 128) (k : Fin 7168), j = ix2 r k := ⟨j 0, j 1, eq_ix2 j⟩
    rw [View.read_apply]
    have e : ((cfg0.win 1).blk t).view.emb (ix2 r k) = ix2 (⟨t.val * 128 + r.val, row_lt t r⟩ : Fin 8192) k := by
      funext a
      apply Fin.ext
      match a with
      | ⟨0, _⟩ => show win0_1.index t 0 * 128 + 1 * r.val = t.val * 128 + r.val; rw [h0]; omega
      | ⟨1, _⟩ => show win0_1.index t 1 * 7168 + 1 * k.val = k.val; rw [h1]; omega
    rw [e]
    show code (rowInv (n := 128) (K := 7168) (iblk m c 0 t) r) ((iblk m c 0 t : Vec Ideal S128x7168 .bf16) (ix2 r k)) = code (rowInv (n := 8192) (K := 7168) _ ⟨t.val * 128 + r.val, row_lt t r⟩) _
    rw [iblk_apply]
    unfold rowInv rowExp
    rw [row_eq]
  · have hi0 : (i 0 : Nat) < 8192 := (i 0).isLt
    have hi1 : (i 1 : Nat) < 7168 := (i 1).isLt
    have hp : (i 0 : Nat) / 128 < cfg0.N := by rw [hN]; omega
    refine ⟨⟨(i 0 : Nat) / 128, hp⟩, flush0_1 _, ?_⟩
    show i ∈ ((View.whole main_v0_0).slice (win0_1.rect (⟨(i 0 : Nat) / 128, hp⟩ : Fin cfg0.N))).set
    rw [View.set_slice_whole, Rect.mem_set_unit]
    intro a
    match a with
    | ⟨0, _⟩ => show win0_1.index (⟨(i 0 : Nat) / 128, hp⟩ : Fin cfg0.N) 0 * 128 ≤ (i 0 : Nat) ∧ (i 0 : Nat) < win0_1.index (⟨(i 0 : Nat) / 128, hp⟩ : Fin cfg0.N) 0 * 128 + 128
                rw [(index_eq ⟨(i 0 : Nat) / 128, hp⟩).2.2.1]; dsimp only; omega
    | ⟨1, _⟩ => show win0_1.index (⟨(i 0 : Nat) / 128, hp⟩ : Fin cfg0.N) 1 * 7168 ≤ (i 1 : Nat) ∧ (i 1 : Nat) < win0_1.index (⟨(i 0 : Nat) / 128, hp⟩ : Fin cfg0.N) 1 * 7168 + 7168
                rw [(index_eq ⟨(i 0 : Nat) / 128, hp⟩).2.2.2.1]; omega

theorem final2 (c : Dev nD) : (dats m 0 c).arrAt 2 cfg0.N = scales (m ((c : Thread nD τ).loc main_arg0)) := by
  have hN : cfg0.N = 64 := N_0
  refine (dats m 0 c).arrAt_eq_of_cover 2 _ (fun t _ => ?_) fun i => ?_
  · show (cfg0.win 2).cut (grid0.coords t) ((dats m 0 c).after 2 t) = _
    rw [after0_2]
    unfold out0_2 k0_pay10 k0_pay11 k0_pay12 k0_pay13
    rw [View.canon_unit_zero hz, View.ld_unit_zero hz, pay7_eq]
    obtain ⟨-, -, -, -, h0, h1⟩ := index_eq t
    funext j
    obtain ⟨r, k, rfl⟩ : ∃ (r : Fin 128) (k : Fin 128), j = ix2 r k := ⟨j 0, j 1, eq_ix2 j⟩
    rw [View.read_apply]
    have e : ((cfg0.win 2).blk t).view.emb (ix2 r k) = ix2 (⟨t.val * 128 + r.val, row_lt t r⟩ : Fin 8192) k := by
      funext a
      apply Fin.ext
      match a with
      | ⟨0, _⟩ => show win0_2.index t 0 * 128 + 1 * r.val = t.val * 128 + r.val; rw [h0]; omega
      | ⟨1, _⟩ => show win0_2.index t 1 * 128 + 1 * k.val = k.val; rw [h1]; omega
    rw [e]
    show rowScale (n := 128) (K := 7168) (iblk m c 0 t) r = rowScale (n := 8192) (K := 7168) _ ⟨t.val * 128 + r.val, row_lt t r⟩
    unfold rowScale rowExp
    rw [row_eq]
  · have hi0 : (i 0 : Nat) < 8192 := (i 0).isLt
    have hi1 : (i 1 : Nat) < 128 := (i 1).isLt
    have hp : (i 0 : Nat) / 128 < cfg0.N := by rw [hN]; omega
    refine ⟨⟨(i 0 : Nat) / 128, hp⟩, flush0_2 _, ?_⟩
    show i ∈ ((View.whole main_v0_1).slice (win0_2.rect (⟨(i 0 : Nat) / 128, hp⟩ : Fin cfg0.N))).set
    rw [View.set_slice_whole, Rect.mem_set_unit]
    intro a
    match a with
    | ⟨0, _⟩ => show win0_2.index (⟨(i 0 : Nat) / 128, hp⟩ : Fin cfg0.N) 0 * 128 ≤ (i 0 : Nat) ∧ (i 0 : Nat) < win0_2.index (⟨(i 0 : Nat) / 128, hp⟩ : Fin cfg0.N) 0 * 128 + 128
                rw [(index_eq ⟨(i 0 : Nat) / 128, hp⟩).2.2.2.2.1]; dsimp only; omega
    | ⟨1, _⟩ => show win0_2.index (⟨(i 0 : Nat) / 128, hp⟩ : Fin cfg0.N) 1 * 128 ≤ (i 1 : Nat) ∧ (i 1 : Nat) < win0_2.index (⟨(i 0 : Nat) / 128, hp⟩ : Fin cfg0.N) 1 * 128 + 128
                rw [(index_eq ⟨(i 0 : Nat) / 128, hp⟩).2.2.2.2.2]; omega

/-- The kernel's run: its two results are the codes and the scales of its argument, which it leaves unchanged. -/
theorem run : θ_run defs (onTc (τ := τ) (main (F := Ideal))) ⟨m, fun _ => 0, ρ⟩ fun r => ∀ c : Dev nD,
      r.2.mem ((c : Thread nD τ).loc main_v0_0) = codes (m ((c : Thread nD τ).loc main_arg0))
      ∧ r.2.mem ((c : Thread nD τ).loc main_v0_1) = scales (m ((c : Thread nD τ).loc main_arg0))
      ∧ r.2.mem ((c : Thread nD τ).loc main_arg0) = m ((c : Thread nD τ).loc main_arg0) :=
  (θ_run defs _ _).mono (fun _ h c => ⟨((h c).1 1).trans (final1 m c), ((h c).1 2).trans (final2 m c),
      ((h c).1 0).trans ((dats m 0 c).arrAt_in 0 rfl _)⟩)
    (run_main m ρ)

end Cert.QuantIdeal.RefValue

/-! ## The claim -/

namespace Cert.Proof

/-- From the same tokens both calls leave the same codes and the same scales. -/
theorem algebraic_quant : Cert.algebraic_QuantIdeal_RefQuantIdeal := fun m ρ m' ρ' _ hag =>
  ⟨fun c => Cert.RefQuantIdeal.RefValue.codes (m ((c.tc : Thread _ _).loc Cert.QuantIdeal.main_arg0)),
    fun c => Cert.RefQuantIdeal.RefValue.scales (m ((c.tc : Thread _ _).loc Cert.QuantIdeal.main_arg0)),
    Cert.QuantIdeal.RefValue.run m ρ,
    (θ_run Cert.RefQuantIdeal.defs _ _).mono
      (fun _ h c => ⟨(h c).1.trans (congrArg _ (hag c)), (h c).2.1.trans (congrArg _ (hag c)), (h c).2.2⟩)
      (Cert.RefQuantIdeal.RefValue.run m' ρ')⟩

end Cert.Proof
-- ==== Proof.KernelFrame.lean ====
/-
  The kernel as it is written: it terminates, leaves its arguments as they were and every counter at zero. Nothing is said here
  of what it writes.
-/
module

public import proofs.«01_k».proof.Defs
public import proofs.«01_k».proof.Proof.Gen.Kernel.Frame
public import proofs.«01_k».proof.Proof.Gen.Kernel.Loops
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame claim's post from a run that says nothing of the results. -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 4 rfl).trans ((hA c 4).trans (V_main_arg1 m c)),
      (Pipeline.RDat.FramePost.arr_in h c 1 rfl).trans ((hA c 1).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 8 (mod 9) — by arithmetic of the point. -/
theorem hcond0_0 : ∀ t : Fin cfg0.N, cond0_0 (grid0.coords t) ↔ t.val % 9 = 8 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2304 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S7168x256 .bf16 := Memref.whole cc0_scratch0
abbrev scM0_1 : Memref sig .tc .vmem S7168x256 .bf16 := Memref.whole cc0_scratch1
abbrev scM0_2 : Memref sig .tc .vmem S9x512x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

set_option maxHeartbeats 1000000 in
/-- The body's triple IN CASE A (`scf.if` 0 not taken: points 0, 1, … 142: 128 of 144): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S512x7168 .fp8e4m3) (harg2 : arg2.IsWhole) (arg3 : Memref sig .tc .vmem S7168x256 .i8) (harg3 : arg3.IsWhole) (arg4 : Memref sig .tc .vmem S448x256 .fp8e4m3) (harg4 : arg4.IsWhole) (arg5 : Memref sig .tc .vmem S448x256 .fp8e4m3) (harg5 : arg5.IsWhole) (arg6 : Memref sig .tc .vmem S512x128 .f32) (harg6 : arg6.IsWhole) (arg7 : Memref sig .tc .smem S1 .f32) (harg7 : arg7.IsWhole) (arg8 : Memref sig .tc .vmem S512x2304 .fp8e4m3) (harg8 : arg8.IsWhole) (arg9 : Memref sig .tc .vmem S512x128 .f32) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S9x512x256 .f32) (harg12 : arg12.IsWhole) (hc0 : ¬cond0_0 i)
    (x0 : Vec F S512x7168 .fp8e4m3) (x1 : Vec F S7168x256 .i8) (x2 : Vec F S448x256 .fp8e4m3) (x3 : Vec F S448x256 .fp8e4m3) (x4 : Vec F S512x128 .f32) (x5 : Vec F S1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12) K := by
    intro E K
    simp only [cc0__main_kernel_eq_skeleton]; unfold cc0__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

set_option maxHeartbeats 1000000 in
/-- The body's triple IN CASE B (`scf.if` 0 taken: points 8, 17, … 143: 16 of 144): on whole staging memrefs — the inputs' at their contents,
    the FORGOTTEN outputs' (6, 7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S512x7168 .fp8e4m3) (harg2 : arg2.IsWhole) (arg3 : Memref sig .tc .vmem S7168x256 .i8) (harg3 : arg3.IsWhole) (arg4 : Memref sig .tc .vmem S448x256 .fp8e4m3) (harg4 : arg4.IsWhole) (arg5 : Memref sig .tc .vmem S448x256 .fp8e4m3) (harg5 : arg5.IsWhole) (arg6 : Memref sig .tc .vmem S512x128 .f32) (harg6 : arg6.IsWhole) (arg7 : Memref sig .tc .smem S1 .f32) (harg7 : arg7.IsWhole) (arg8 : Memref sig .tc .vmem S512x2304 .fp8e4m3) (harg8 : arg8.IsWhole) (arg9 : Memref sig .tc .vmem S512x128 .f32) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S9x512x256 .f32) (harg12 : arg12.IsWhole) (hc0 : cond0_0 i)
    (x0 : Vec F S512x7168 .fp8e4m3) (x1 : Vec F S7168x256 .i8) (x2 : Vec F S448x256 .fp8e4m3) (x3 : Vec F S448x256 .fp8e4m3) (x4 : Vec F S512x128 .f32) (x5 : Vec F S1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12) K := by
    intro E K
    simp only [cc0__main_kernel_eq_skeleton]; unfold cc0__main_kernel_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _, _; isplitr; swap; · iexact H6
      ipureintro; rfl
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    iexists _, _; isplitr; swap; · iexact HS2
    ipureintro; rfl

/-! ## The pipeline's proof data -/

/-- The windows of the two results: nothing is said of what they hold. -/
def forgets0 : Fin 8 → Bool := fun w => w.val == 6 || w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 144 := lt_of_lt_of_eq t.isLt (show cfg0.N = 144 from N_0)
  by_cases h0 : t.val % 9 = 8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- The whole call runs to its end with every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run says nothing of the results. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- The kernel terminates, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.MainKit.lean ====
/-
  The main call's body, point by point: the conditions, the staging buffers and the scratch of the pipeline.
-/
module

public import proofs.«01_k».proof.Defs
public import proofs.«01_k».proof.Proof.Gen.KernelIdeal.Frame
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 8 (mod 9) — by arithmetic of the point. -/
theorem hcond0_0 : ∀ t : Fin cfg0.N, cond0_0 (grid0.coords t) ↔ t.val % 9 = 8 :=
  (fun t => by
    have ht : t.val < 144 := Nat.lt_of_lt_of_eq t.isLt N_0
    have e0 : (grid0.coords t 0).val = t.val / 9 % 16 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val % 9 = 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x7168 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S7168x256 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S448x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S448x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x2304 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x128 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S7168x256 .bf16 := Memref.whole cc0_scratch0
abbrev scM0_1 : Memref sig .tc .vmem S7168x256 .bf16 := Memref.whole cc0_scratch1
abbrev scM0_2 : Memref sig .tc .vmem S9x512x256 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.MainTrips.lean ====
/-
  The main call's loop over the packed weights: what its fourteen trips leave in the two buffers of decoded weights.
-/
module

public import proofs.«01_k».proof.Proof.MainKit
public import Idealize.ShloMosaic.Lib.WritesUnit
public import Idealize.ShloMosaic.Lib.Pipeline.ValueKit
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of trip `k`'s rows of weights. -/
theorem off1_eq (k : Fin k0_t1_loop.trips) : k0_off1 k = ![512 * k.val, 0] := by
  have h : ∀ k : Fin k0_t1_loop.trips, k0_off1 k = ![512 * k.val, 0] := by decide +kernel
  exact h k

/-- The offsets of trip `k`'s rows of weight scales. -/
theorem off2_eq (k : Fin k0_t1_loop.trips) : k0_off2 k = ![32 * k.val, 0] := by
  have h : ∀ k : Fin k0_t1_loop.trips, k0_off2 k = ![32 * k.val, 0] := by decide +kernel
  exact h k

/-- The loop makes fourteen trips. -/
theorem trips_eq : k0_t1_loop.trips = 14 := by decide +kernel

/-- Trip `k`'s rows of a buffer of weights. -/
abbrev rows (k : Fin k0_t1_loop.trips) : Rect S7168x256 :=
  Rect.unit (s := S7168x256) (k0_off1 k) S512x256.size (k0_off1_inb k)

/-- Trip `k`'s rows of a buffer of weight scales. -/
abbrev srows (k : Fin k0_t1_loop.trips) : Rect S448x256 :=
  Rect.unit (s := S448x256) (k0_off2 k) S32x256.size (k0_off2_inb k)

/-- What trip `k` writes of the gate weights, from the packed codes and the gate scales. -/
def gateTile (x1 : Vec F S7168x256 .i8) (x2 : Vec F S448x256 .fp8e4m3) (k : Fin k0_t1_loop.trips) :
    FVec F S512x256 .bf16 :=
  k0_pay1 (k0_pay8 (View.ld (Val := Elt F) (S := S7168x256) (e' := .i8) x1 (rows k)) (View.ld (Val := Elt F) (S := S448x256) (e' := .fp8e4m3) x2 (srows k)))

/-- What trip `k` writes of the up weights, from the packed codes and the up scales. -/
def upTile (x1 : Vec F S7168x256 .i8) (x3 : Vec F S448x256 .fp8e4m3) (k : Fin k0_t1_loop.trips) :
    FVec F S512x256 .bf16 :=
  k0_pay2 (k0_pay6 (View.ld (Val := Elt F) (S := S7168x256) (e' := .i8) x1 (rows k))) (k0_pay7 (View.ld (Val := Elt F) (S := S448x256) (e' := .fp8e4m3) x3 (srows k)))

/-- The trip that writes row `r`. -/
def tripOf (y : S7168x256.Idx) : Fin k0_t1_loop.trips :=
  ⟨(y (0 : Fin 2)).val / 512, by
    rw [trips_eq]
    have h : (y (0 : Fin 2)).val < 7168 := (y (0 : Fin 2)).isLt
    omega⟩

/-- Where in its trip's rows an index lies. -/
def inTrip (y : S7168x256.Idx) : S512x256.Idx :=
  ix2 (⟨(y (0 : Fin 2)).val % 512, Nat.mod_lt _ (by decide)⟩ : Fin 512) (y (1 : Fin 2) : Fin 256)

/-- The gate weights the loop leaves. -/
def gateW (x1 : Vec F S7168x256 .i8) (x2 : Vec F S448x256 .fp8e4m3) : Vec F S7168x256 .bf16 :=
  fun y => gateTile x1 x2 (tripOf y) (inTrip y)

/-- The up weights the loop leaves. -/
def upW (x1 : Vec F S7168x256 .i8) (x3 : Vec F S448x256 .fp8e4m3) : Vec F S7168x256 .bf16 :=
  fun y => upTile x1 x3 (tripOf y) (inTrip y)

section Pieces

variable (𝒱 : Variants) (c : Dev nD) (bd : Option 𝒱.V) (i : grid0.Coords) (arg2 : Memref sig .tc .vmem S512x7168 .fp8e4m3) (harg2 : arg2.IsWhole) (arg3 : Memref sig .tc .vmem S7168x256 .i8) (harg3 : arg3.IsWhole) (arg4 : Memref sig .tc .vmem S448x256 .fp8e4m3) (harg4 : arg4.IsWhole) (arg5 : Memref sig .tc .vmem S448x256 .fp8e4m3) (harg5 : arg5.IsWhole) (arg6 : Memref sig .tc .vmem S512x128 .f32) (harg6 : arg6.IsWhole) (arg7 : Memref sig .tc .smem S1 .f32) (harg7 : arg7.IsWhole) (arg8 : Memref sig .tc .vmem S512x2304 .fp8e4m3) (harg8 : arg8.IsWhole) (arg9 : Memref sig .tc .vmem S512x128 .f32) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S9x512x256 .f32) (harg12 : arg12.IsWhole)

/-- A trip's one piece of the gate weights. -/
theorem trip_gate (X_arg3 : BufTy.Contents (Elt F) arg3.view.ty) (X_arg4 : BufTy.Contents (Elt F) arg4.view.ty) (X_arg5 : BufTy.Contents (Elt F) arg5.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 X_arg3 X_arg4 X_arg5 k).1
      = [⟨rows k, k0_pay1 (k0_pay8 (arg3.view.readAt (Elt F) (rows k).toLoadRect X_arg3) (arg4.view.readAt (Elt F) (srows k).toLoadRect X_arg4))⟩] := by
  unfold tripL_k0_t1 trip_k0_t1
  rfl

/-- A trip's one piece of the up weights. -/
theorem trip_up (X_arg3 : BufTy.Contents (Elt F) arg3.view.ty) (X_arg4 : BufTy.Contents (Elt F) arg4.view.ty) (X_arg5 : BufTy.Contents (Elt F) arg5.view.ty) (k : Fin k0_t1_loop.trips) :
    (tripL_k0_t1 (F := F) 𝒱 c bd i arg2 harg2 arg3 harg3 arg4 harg4 arg5 harg5 arg6 harg6 arg7 harg7 arg8 harg8 arg9 harg9 arg10 harg10 arg11 harg11 arg12 harg12 X_arg3 X_arg4 X_arg5 k).2
      = [⟨rows k, k0_pay2 (k0_pay6 (arg3.view.readAt (Elt F) (rows k).toLoadRect X_arg3)) (k0_pay7 (arg5.view.readAt (Elt F) (srows k).toLoadRect X_arg5))⟩] := by
  unfold tripL_k0_t1 trip_k0_t1
  rfl

/-- Rows written trip by trip: if trip `k` writes its rows at `T k` and nothing else, then after the first `n` trips every
   row below `512 * n` holds what its trip wrote. -/
theorem read_trips (v : View sig .tc .vmem S7168x256 .bf16) (f : v.ty.Contents (Elt F))
    (L : ℕ → List (View.Piece (Elt F) S7168x256 .bf16)) (T : Fin k0_t1_loop.trips → FVec F S512x256 .bf16)
    (hL : ∀ k : Fin k0_t1_loop.trips, L (k.val + 1) = [(⟨rows k, T k⟩ : View.Piece (Elt F) S7168x256 .bf16)] ++ L k.val)
    (n : ℕ) (hn : n ≤ k0_t1_loop.trips) (y : S7168x256.Idx) (hy : (y (0 : Fin 2)).val < 512 * n) :
    v.read (Elt F) (v.writes (Elt F) f (L n)) y = T (tripOf y) (inTrip y) := by
  induction n with
  | zero => omega
  | succ n ih =>
    rw [show L (n + 1) = _ from hL ⟨n, hn⟩]
    by_cases h : (y (0 : Fin 2)).val < 512 * n
    · exact (View.read_writes_cons_rows_of_not_mem (d := ![7168, 256]) v f (o := 512 * n) (W := 512) _ _ _ y (off1_eq ⟨n, hn⟩) rfl (Or.inl h)).trans
        (ih (Nat.le_of_succ_le hn) h)
    · have hk : tripOf y = ⟨n, hn⟩ := Fin.ext (show (y (0 : Fin 2)).val / 512 = n by omega)
      rw [hk]
      refine View.read_writes_cons_rows_of_mem (d := ![7168, 256]) v f (o := 512 * n) _ _ _ y (inTrip y) (off1_eq ⟨n, hn⟩) ?_ rfl
      show (y (0 : Fin 2)).val = 512 * n + (y (0 : Fin 2)).val % 512
      omega

/-- The gate weights after the loop. -/
theorem read_gate (x1 : Vec F S7168x256 .i8) (x2 : Vec F S448x256 .fp8e4m3) (X_arg5 : BufTy.Contents (Elt F) arg5.view.ty) (f : arg10.view.ty.Contents (Elt F)) :
    arg10.view.read (Elt F) (arg10.view.writes (Elt F) f
      (pb_k0_t1 (F := F) 𝒱 c bd i arg2 harg2 arg3 harg3 arg4 harg4 arg5 harg5 arg6 harg6 arg7 harg7 arg8 harg8 arg9 harg9 arg10 harg10 arg11 harg11 arg12 harg12 (harg3.unread x1) (harg4.unread x2) X_arg5 k0_t1_loop.trips).1)
      = gateW x1 x2 := by
  funext y
  have hy : (y (0 : Fin 2)).val < 512 * k0_t1_loop.trips := by
    rw [trips_eq]
    exact (y (0 : Fin 2)).isLt
  refine read_trips arg10.view f (fun n => (pb_k0_t1 (F := F) 𝒱 c bd i arg2 harg2 arg3 harg3 arg4 harg4 arg5 harg5 arg6 harg6 arg7 harg7 arg8 harg8 arg9 harg9 arg10 harg10 arg11 harg11 arg12 harg12 (harg3.unread x1) (harg4.unread x2) X_arg5 n).1)
    (gateTile x1 x2) (fun k => ?_) _ le_rfl y hy
  have h := trip_gate (F := F) 𝒱 c bd i arg2 harg2 arg3 harg3 arg4 harg4 arg5 harg5 arg6 harg6 arg7 harg7 arg8 harg8 arg9 harg9 arg10 harg10 arg11 harg11 arg12 harg12 (harg3.unread x1) (harg4.unread x2) X_arg5 k
  rw [View.readAt_eq_ld, View.readAt_eq_ld, Memref.IsWhole.read_unread, Memref.IsWhole.read_unread] at h
  exact (congrArg Prod.fst (pb_k0_t1_succ (F := F) 𝒱 c bd i arg2 harg2 arg3 harg3 arg4 harg4 arg5 harg5 arg6 harg6 arg7 harg7 arg8 harg8 arg9 harg9 arg10 harg10 arg11 harg11 arg12 harg12 (harg3.unread x1) (harg4.unread x2) X_arg5 k)).trans (congrArg (· ++ _) h)

/-- The up weights after the loop. -/
theorem read_up (x1 : Vec F S7168x256 .i8) (x3 : Vec F S448x256 .fp8e4m3) (X_arg4 : BufTy.Contents (Elt F) arg4.view.ty) (f : arg11.view.ty.Contents (Elt F)) :
    arg11.view.read (Elt F) (arg11.view.writes (Elt F) f
      (pb_k0_t1 (F := F) 𝒱 c bd i arg2 harg2 arg3 harg3 arg4 harg4 arg5 harg5 arg6 harg6 arg7 harg7 arg8 harg8 arg9 harg9 arg10 harg10 arg11 harg11 arg12 harg12 (harg3.unread x1) X_arg4 (harg5.unread x3) k0_t1_loop.trips).2)
      = upW x1 x3 := by
  funext y
  have hy : (y (0 : Fin 2)).val < 512 * k0_t1_loop.trips := by
    rw [trips_eq]
    exact (y (0 : Fin 2)).isLt
  refine read_trips arg11.view f (fun n => (pb_k0_t1 (F := F) 𝒱 c bd i arg2 harg2 arg3 harg3 arg4 harg4 arg5 harg5 arg6 harg6 arg7 harg7 arg8 harg8 arg9 harg9 arg10 harg10 arg11 harg11 arg12 harg12 (harg3.unread x1) X_arg4 (harg5.unread x3) n).2)
    (upTile x1 x3) (fun k => ?_) _ le_rfl y hy
  have h := trip_up (F := F) 𝒱 c bd i arg2 harg2 arg3 harg3 arg4 harg4 arg5 harg5 arg6 harg6 arg7 harg7 arg8 harg8 arg9 harg9 arg10 harg10 arg11 harg11 arg12 harg12 (harg3.unread x1) X_arg4 (harg5.unread x3) k
  rw [View.readAt_eq_ld, View.readAt_eq_ld, Memref.IsWhole.read_unread, Memref.IsWhole.read_unread] at h
  exact (congrArg Prod.snd (pb_k0_t1_succ (F := F) 𝒱 c bd i arg2 harg2 arg3 harg3 arg4 harg4 arg5 harg5 arg6 harg6 arg7 harg7 arg8 harg8 arg9 harg9 arg10 harg10 arg11 harg11 arg12 harg12 (harg3.unread x1) X_arg4 (harg5.unread x3) k)).trans (congrArg (· ++ _) h)

end Pieces

end Cert.KernelIdeal.Gen

end
-- ==== Proof.MainRuns.lean ====
/-
  One run of the main call's body: what it leaves in the buffer of hidden tiles and, at the last column tile, in the two result
  blocks.
-/
module

public import proofs.«01_k».proof.Proof.MainTrips
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer of hidden tiles with tile `i 1` replaced by `T`. -/
def put (i : grid0.Coords) (d : Vec F S9x512x256 .f32) (T : FVec F S1x512x256 .f32) : Vec F S9x512x256 .f32 :=
  fun y => if (y (0 : Fin 3)).val = (i 1).val then T (ix3 (0 : Fin 1) (y (1 : Fin 3) : Fin 512) (y (2 : Fin 3) : Fin 256)) else d y

/-- The hidden tile of one grid point, from the blocks the point reads. -/
def hTile (x0 : Vec F S512x7168 .fp8e4m3) (x1 : Vec F S7168x256 .i8) (x2 x3 : Vec F S448x256 .fp8e4m3) (x4 : Vec F S512x128 .f32)
    (x5 : Vec F S1 .f32) : FVec F S1x512x256 .f32 :=
  k0_pay3 x0 (View.ld (Val := Elt F) (S := S512x128) (e' := .f32) x4 (Rect.unit (s := S512x128) ![0, 0] S512x1.size inb_S512x128_S512x1_0_0))
    (x5 (ix1 (0 : Fin 1))) (gateW x1 x2) (upW x1 x3)

/-- Hidden tile 0 of the buffer. -/
abbrev slice0 (D : Vec F S9x512x256 .f32) : Vec F S1x512x256 .f32 :=
  View.ld (Val := Elt F) (S := S9x512x256) (e' := .f32) D (Rect.unit (s := S9x512x256) ![0, 0, 0] S1x512x256.size inb_S9x512x256_S1x512x256_0_0_0)

/-- Hidden tile 1 of the buffer. -/
abbrev slice1 (D : Vec F S9x512x256 .f32) : Vec F S1x512x256 .f32 :=
  View.ld (Val := Elt F) (S := S9x512x256) (e' := .f32) D (Rect.unit (s := S9x512x256) ![1, 0, 0] S1x512x256.size inb_S9x512x256_S1x512x256_1_0_0)

/-- Hidden tile 2 of the buffer. -/
abbrev slice2 (D : Vec F S9x512x256 .f32) : Vec F S1x512x256 .f32 :=
  View.ld (Val := Elt F) (S := S9x512x256) (e' := .f32) D (Rect.unit (s := S9x512x256) ![2, 0, 0] S1x512x256.size inb_S9x512x256_S1x512x256_2_0_0)

/-- Hidden tile 3 of the buffer. -/
abbrev slice3 (D : Vec F S9x512x256 .f32) : Vec F S1x512x256 .f32 :=
  View.ld (Val := Elt F) (S := S9x512x256) (e' := .f32) D (Rect.unit (s := S9x512x256) ![3, 0, 0] S1x512x256.size inb_S9x512x256_S1x512x256_3_0_0)

/-- Hidden tile 4 of the buffer. -/
abbrev slice4 (D : Vec F S9x512x256 .f32) : Vec F S1x512x256 .f32 :=
  View.ld (Val := Elt F) (S := S9x512x256) (e' := .f32) D (Rect.unit (s := S9x512x256) ![4, 0, 0] S1x512x256.size inb_S9x512x256_S1x512x256_4_0_0)

/-- Hidden tile 5 of the buffer. -/
abbrev slice5 (D : Vec F S9x512x256 .f32) : Vec F S1x512x256 .f32 :=
  View.ld (Val := Elt F) (S := S9x512x256) (e' := .f32) D (Rect.unit (s := S9x512x256) ![5, 0, 0] S1x512x256.size inb_S9x512x256_S1x512x256_5_0_0)

/-- Hidden tile 6 of the buffer. -/
abbrev slice6 (D : Vec F S9x512x256 .f32) : Vec F S1x512x256 .f32 :=
  View.ld (Val := Elt F) (S := S9x512x256) (e' := .f32) D (Rect.unit (s := S9x512x256) ![6, 0, 0] S1x512x256.size inb_S9x512x256_S1x512x256_6_0_0)

/-- Hidden tile 7 of the buffer. -/
abbrev slice7 (D : Vec F S9x512x256 .f32) : Vec F S1x512x256 .f32 :=
  View.ld (Val := Elt F) (S := S9x512x256) (e' := .f32) D (Rect.unit (s := S9x512x256) ![7, 0, 0] S1x512x256.size inb_S9x512x256_S1x512x256_7_0_0)

/-- Hidden tile 8 of the buffer. -/
abbrev slice8 (D : Vec F S9x512x256 .f32) : Vec F S1x512x256 .f32 :=
  View.ld (Val := Elt F) (S := S9x512x256) (e' := .f32) D (Rect.unit (s := S9x512x256) ![8, 0, 0] S1x512x256.size inb_S9x512x256_S1x512x256_8_0_0)

/-- The word of each row's scale exponent, on every lane, from the nine hidden tiles. -/
def words (D : Vec F S9x512x256 .f32) : IVec S512x128 32 :=
  k0_pay13 (k0_pay10 (k0_pay9 (slice0 D) (slice1 D) (slice2 D) (slice3 D) (slice4 D) (slice5 D)) (slice6 D) (slice7 D) (slice8 D))
    (k0_pay11 (k0_pay9 (slice0 D) (slice1 D) (slice2 D) (slice3 D) (slice4 D) (slice5 D)) (slice6 D) (slice7 D) (slice8 D))
    (k0_pay12 (k0_pay9 (slice0 D) (slice1 D) (slice2 D) (slice3 D) (slice4 D) (slice5 D)) (slice6 D) (slice7 D) (slice8 D))

/-- The block of scales the last column tile writes. -/
def scaleBlk (D : Vec F S9x512x256 .f32) : Vec F S512x128 .f32 := k0_pay14 (words D)

/-- The nine tiles of codes the last column tile writes. -/
def codeTile (D : Vec F S9x512x256 .f32) : Fin 9 → Vec F S512x256 .fp8e4m3 :=
  ![k0_pay16 (words D) (slice0 D), k0_pay17 (words D) (slice1 D), k0_pay18 (k0_pay15 (words D)) (slice2 D),
    k0_pay19 (k0_pay15 (words D)) (slice3 D), k0_pay20 (k0_pay15 (words D)) (slice4 D),
    k0_pay23 (k0_pay21 (slice5 D)) (k0_pay22 (k0_pay15 (words D))), k0_pay24 (k0_pay15 (words D)) (slice6 D),
    k0_pay25 (k0_pay15 (words D)) (slice7 D),
    k0_pay4 (k0_pay26 (k0_pay15 (words D)) (slice8 D)) (FloatOps.ofBits .f32 3286237184#32) (FloatOps.ofBits .f32 1138753536#32)]

/-- The block of codes the last column tile writes. -/
def codeBlk (D : Vec F S9x512x256 .f32) : Vec F S512x2304 .fp8e4m3 :=
  fun y => codeTile D ⟨(y (1 : Fin 2)).val / 256, by
      have h : (y (1 : Fin 2)).val < 2304 := (y (1 : Fin 2)).isLt
      omega⟩
    (ix2 (y (0 : Fin 2) : Fin 512) (⟨(y (1 : Fin 2)).val % 256, Nat.mod_lt _ (by decide)⟩ : Fin 256))

/-- The offsets of the hidden tile a grid point writes. -/
theorem off3_eq (i : grid0.Coords) : k0_off3 i = ![(i 1).val, 0, 0] := by
  have h : ∀ j : Fin 9, (Scalar.indexCast (BitVec.ofNat 32 j.val) : Index).toNat = j.val := by decide +kernel
  exact congrArg (fun n => ![n, 0, 0]) (h (i 1))

/-- Reading the hidden tiles after one of them is written. -/
theorem read_put (v : View sig .tc .vmem S9x512x256 .f32) (f : v.ty.Contents (Elt F)) (i : grid0.Coords)
    (T : FVec F S1x512x256 .f32) :
    v.read (Elt F) (v.writes (Elt F) f
      [(⟨Rect.unit (s := S9x512x256) (k0_off3 i) S1x512x256.size (k0_off3_inb i), T⟩ : View.Piece (Elt F) S9x512x256 .f32)])
      = put i (v.read (Elt F) f) T := by
  funext y
  unfold put
  by_cases h : (y (0 : Fin 3)).val = (i 1).val
  · rw [if_pos h]
    refine View.read_writes_cons_unit_of_mem v f _ _ _ y _ (off3_eq i) fun a => ?_
    fin_cases a
    · show (y (0 : Fin 3)).val = (i 1).val + 0
      omega
    · exact (Nat.zero_add _).symm
    · exact (Nat.zero_add _).symm
  · rw [if_neg h]
    exact View.read_writes_cons_unit_of_not_mem v f _ _ _ y (off3_eq i) (0 : Fin 3) (by
      show (y (0 : Fin 3)).val < (i 1).val ∨ (i 1).val + 1 ≤ (y (0 : Fin 3)).val
      omega)

/-- The first `n` tiles of columns hold `T`. -/
def HoldsTo (X : Vec F S512x2304 .fp8e4m3) (T : Fin 9 → Vec F S512x256 .fp8e4m3) (n : ℕ) : Prop :=
  ∀ (y : S512x2304.Idx) (k : Fin 9) (x : S512x256.Idx), k.val < n → (y (0 : Fin 2)).val = (x (0 : Fin 2)).val →
    (y (1 : Fin 2)).val = 256 * k.val + (x (1 : Fin 2)).val → X y = T k x

/-- One more tile of codes written: the columns below it keep what they held. -/
theorem holdsTo_step (v : View sig .tc .vmem S512x2304 .fp8e4m3) (f : v.ty.Contents (Elt F)) (T : Fin 9 → Vec F S512x256 .fp8e4m3)
    (n : Fin 9) (o : ℕ) (ho : o = 256 * n.val) (inb : ∀ a, (![0, o] : Fin 2 → ℕ) a + S512x256.size a ≤ S512x2304.size a)
    (L : List (View.Piece (Elt F) S512x2304 .fp8e4m3)) (h : HoldsTo (v.read (Elt F) (v.writes (Elt F) f L)) T n.val)
    (w : Vec F S512x256 .fp8e4m3) (hw : w = T n) :
    HoldsTo (v.read (Elt F) (v.writes (Elt F) f
      ((⟨Rect.unit (s := S512x2304) ![0, o] S512x256.size inb, w⟩ : View.Piece (Elt F) S512x2304 .fp8e4m3) :: L))) T (n.val + 1) := by
  intro y k x hk h0 h1
  have hx : (x (1 : Fin 2)).val < 256 := (x (1 : Fin 2)).isLt
  by_cases hlt : k.val < n.val
  · exact (View.read_writes_cons_unit_of_not_mem v f inb _ L y rfl (1 : Fin 2) (Or.inl (by
      show (y (1 : Fin 2)).val < o
      omega))).trans (h y k x hlt h0 h1)
  · have hk' : k = n := Fin.ext (by omega)
    subst hk' hw
    refine View.read_writes_cons_unit_of_mem v f inb _ L y x rfl fun a => ?_
    fin_cases a
    · exact h0.trans (Nat.zero_add _).symm
    · subst ho
      exact h1

/-- All nine tiles of codes written. -/
theorem read_codes (v : View sig .tc .vmem S512x2304 .fp8e4m3) (f : v.ty.Contents (Elt F)) (T0 T1 T2 T3 T4 T5 T6 T7 T8 : Vec F S512x256 .fp8e4m3)
    (T : Fin 9 → Vec F S512x256 .fp8e4m3) (h0 : T0 = T 0) (h1 : T1 = T 1) (h2 : T2 = T 2) (h3 : T3 = T 3) (h4 : T4 = T 4) (h5 : T5 = T 5) (h6 : T6 = T 6) (h7 : T7 = T 7) (h8 : T8 = T 8) :
    v.read (Elt F) (v.writes (Elt F) f (
      [⟨Rect.unit (s := S512x2304) ![0, 2048] S512x256.size inb_S512x2304_S512x256_0_2048, T8⟩,
        ⟨Rect.unit (s := S512x2304) ![0, 1792] S512x256.size inb_S512x2304_S512x256_0_1792, T7⟩,
        ⟨Rect.unit (s := S512x2304) ![0, 1536] S512x256.size inb_S512x2304_S512x256_0_1536, T6⟩,
        ⟨Rect.unit (s := S512x2304) ![0, 1280] S512x256.size inb_S512x2304_S512x256_0_1280, T5⟩,
        ⟨Rect.unit (s := S512x2304) ![0, 1024] S512x256.size inb_S512x2304_S512x256_0_1024, T4⟩,
        ⟨Rect.unit (s := S512x2304) ![0, 768] S512x256.size inb_S512x2304_S512x256_0_768, T3⟩,
        ⟨Rect.unit (s := S512x2304) ![0, 512] S512x256.size inb_S512x2304_S512x256_0_512, T2⟩,
        ⟨Rect.unit (s := S512x2304) ![0, 256] S512x256.size inb_S512x2304_S512x256_0_256, T1⟩,
        ⟨Rect.unit (s := S512x2304) ![0, 0] S512x256.size inb_S512x2304_S512x256_0_0, T0⟩] : List (View.Piece (Elt F) S512x2304 .fp8e4m3)))
      = fun y => T ⟨(y (1 : Fin 2)).val / 256, by
          have h : (y (1 : Fin 2)).val < 2304 := (y (1 : Fin 2)).isLt
          omega⟩
        (ix2 (y (0 : Fin 2) : Fin 512) (⟨(y (1 : Fin 2)).val % 256, Nat.mod_lt _ (by decide)⟩ : Fin 256)) := by
  have s0 := holdsTo_step v f T 0 0 rfl inb_S512x2304_S512x256_0_0 [] (fun _ _ _ h => absurd h (Nat.not_lt_zero _)) T0 h0
  have s1 := holdsTo_step v f T 1 256 rfl inb_S512x2304_S512x256_0_256 _ s0 T1 h1
  have s2 := holdsTo_step v f T 2 512 rfl inb_S512x2304_S512x256_0_512 _ s1 T2 h2
  have s3 := holdsTo_step v f T 3 768 rfl inb_S512x2304_S512x256_0_768 _ s2 T3 h3
  have s4 := holdsTo_step v f T 4 1024 rfl inb_S512x2304_S512x256_0_1024 _ s3 T4 h4
  have s5 := holdsTo_step v f T 5 1280 rfl inb_S512x2304_S512x256_0_1280 _ s4 T5 h5
  have s6 := holdsTo_step v f T 6 1536 rfl inb_S512x2304_S512x256_0_1536 _ s5 T6 h6
  have s7 := holdsTo_step v f T 7 1792 rfl inb_S512x2304_S512x256_0_1792 _ s6 T7 h7
  have s8 := holdsTo_step v f T 8 2048 rfl inb_S512x2304_S512x256_0_2048 _ s7 T8 h8
  funext y
  have h : (y (1 : Fin 2)).val < 2304 := (y (1 : Fin 2)).isLt
  exact s8 y ⟨(y (1 : Fin 2)).val / 256, by omega⟩ _ (by show (y (1 : Fin 2)).val / 256 < 9; omega) rfl
    (by show (y (1 : Fin 2)).val = 256 * ((y (1 : Fin 2)).val / 256) + (y (1 : Fin 2)).val % 256; omega)

private theorem hz2 : (![0, 0] : Fin 2 → ℕ) = fun _ => 0 := by decide

set_option maxHeartbeats 1000000 in
/-- A grid point that is not a last column tile writes its hidden tile and leaves the two result blocks alone. -/
theorem kernelRun0_A (c : Dev nD) (i : grid0.Coords) (arg2 : Memref sig .tc .vmem S512x7168 .fp8e4m3) (harg2 : arg2.IsWhole) (arg3 : Memref sig .tc .vmem S7168x256 .i8) (harg3 : arg3.IsWhole) (arg4 : Memref sig .tc .vmem S448x256 .fp8e4m3) (harg4 : arg4.IsWhole) (arg5 : Memref sig .tc .vmem S448x256 .fp8e4m3) (harg5 : arg5.IsWhole) (arg6 : Memref sig .tc .vmem S512x128 .f32) (harg6 : arg6.IsWhole) (arg7 : Memref sig .tc .smem S1 .f32) (harg7 : arg7.IsWhole) (arg8 : Memref sig .tc .vmem S512x2304 .fp8e4m3) (harg8 : arg8.IsWhole) (arg9 : Memref sig .tc .vmem S512x128 .f32) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S9x512x256 .f32) (harg12 : arg12.IsWhole) (hc0 : ¬cond0_0 i)
    (x0 : Vec F S512x7168 .fp8e4m3) (x1 : Vec F S7168x256 .i8) (x2 : Vec F S448x256 .fp8e4m3) (x3 : Vec F S448x256 .fp8e4m3) (x4 : Vec F S512x128 .f32) (x5 : Vec F S1 .f32) (d : Vec F S9x512x256 .f32) (g6 : Vec F S512x2304 .fp8e4m3) (g7 : Vec F S512x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare g6 ∗ owns (c : Thread nD τ) arg9 fullShare g7 ∗ (∃ d, owns (c : Thread nD τ) arg10 fullShare d) ∗ (∃ d, owns (c : Thread nD τ) arg11 fullShare d) ∗ owns (c : Thread nD τ) arg12 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare g6 ∗ owns (c : Thread nD τ) arg9 fullShare g7 ∗ (∃ d, owns (c : Thread nD τ) arg10 fullShare d) ∗ (∃ d, owns (c : Thread nD τ) arg11 fullShare d) ∗ owns (c : Thread nD τ) arg12 fullShare (put i d (hTile x0 x1 x2 x3 x4 x5))) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12) K := by
    intro E K
    simp only [cc0__main_kernel_eq_skeleton]; unfold cc0__main_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    have hv5 : kernelRun0_A.sl.v5 c i arg2 harg2 arg3 harg3 arg4 harg4 arg5 harg5 arg6 harg6 arg7 harg7 arg8 harg8 arg9 harg9 arg10 harg10 arg11 harg11 arg12 harg12 x1 x2 x3 fs0 = gateW x1 x2 :=
      (View.ld_unit_zero hz2 _ _).trans (read_gate (F := F) Variants.none c none i arg2 harg2 arg3 harg3 arg4 harg4 arg5 harg5 arg6 harg6 arg7 harg7 arg8 harg8 arg9 harg9 arg10 harg10 arg11 harg11 arg12 harg12 x1 x2 (harg5.unread x3) fs0)
    have hv11 : kernelRun0_A.sl.v11 c i arg2 harg2 arg3 harg3 arg4 harg4 arg5 harg5 arg6 harg6 arg7 harg7 arg8 harg8 arg9 harg9 arg10 harg10 arg11 harg11 arg12 harg12 x1 x2 x3 fs1 = upW x1 x3 :=
      (View.ld_unit_zero hz2 _ _).trans (read_up (F := F) Variants.none c none i arg2 harg2 arg3 harg3 arg4 harg4 arg5 harg5 arg6 harg6 arg7 harg7 arg8 harg8 arg9 harg9 arg10 harg10 arg11 harg11 arg12 harg12 x1 x3 (harg4.unread x2) fs1)
    have hv1 : View.readAt (Elt F) arg2.view (Rect.unit (s := S512x7168) ![0, 0] S512x7168.size inb_S512x7168_S512x7168_0_0).toLoadRect (harg2.unread x0) = x0 :=
      (View.ld_unit_zero hz2 _ _).trans (harg2.read_unread x0)
    have hv3 : View.readAt (Elt F) arg6.view (Rect.unit (s := S512x128) ![0, 0] S512x1.size inb_S512x128_S512x1_0_0).toLoadRect (harg6.unread x4)
        = View.ld (Val := Elt F) (S := S512x128) (e' := .f32) x4 (Rect.unit (s := S512x128) ![0, 0] S512x1.size inb_S512x128_S512x1_0_0) :=
      congrArg (fun X => View.ld (Val := Elt F) (S := S512x128) (e' := .f32) X (Rect.unit (s := S512x128) ![0, 0] S512x1.size inb_S512x128_S512x1_0_0)) (harg6.read_unread x4)
    have hr : kernelRun0_A.sl.r c arg7 harg7 x5 = x5 (ix1 (0 : Fin 1)) := by
      refine (congrFun (harg7.read_unread x5) _).trans (congrArg x5 (funext fun a => ?_))
      fin_cases a
      exact Subsingleton.elim (α := Fin 1) _ _
    have hT : k0_pay3 (View.readAt (Elt F) arg2.view (Rect.unit (s := S512x7168) ![0, 0] S512x7168.size inb_S512x7168_S512x7168_0_0).toLoadRect (harg2.unread x0))
        (View.readAt (Elt F) arg6.view (Rect.unit (s := S512x128) ![0, 0] S512x1.size inb_S512x128_S512x1_0_0).toLoadRect (harg6.unread x4))
        (kernelRun0_A.sl.r c arg7 harg7 x5) (kernelRun0_A.sl.v5 c i arg2 harg2 arg3 harg3 arg4 harg4 arg5 harg5 arg6 harg6 arg7 harg7 arg8 harg8 arg9 harg9 arg10 harg10 arg11 harg11 arg12 harg12 x1 x2 x3 fs0) (kernelRun0_A.sl.v11 c i arg2 harg2 arg3 harg3 arg4 harg4 arg5 harg5 arg6 harg6 arg7 harg7 arg8 harg8 arg9 harg9 arg10 harg10 arg11 harg11 arg12 harg12 x1 x2 x3 fs1) = hTile x0 x1 x2 x3 x4 x5 := by
      rw [hv1, hv3, hr, hv5, hv11]; rfl
    have hS2 : arg12.view.read (Elt F) (arg12.view.writes (Elt F) fs2 [(⟨Rect.unit (s := S9x512x256) (k0_off3 i) S1x512x256.size (k0_off3_inb i), k0_pay3 (View.readAt (Elt F) arg2.view (Rect.unit (s := S512x7168) ![0, 0] S512x7168.size inb_S512x7168_S512x7168_0_0).toLoadRect (harg2.unread x0)) (View.readAt (Elt F) arg6.view (Rect.unit (s := S512x128) ![0, 0] S512x1.size inb_S512x128_S512x1_0_0).toLoadRect (harg6.unread x4)) (kernelRun0_A.sl.r c arg7 harg7 x5) (kernelRun0_A.sl.v5 c i arg2 harg2 arg3 harg3 arg4 harg4 arg5 harg5 arg6 harg6 arg7 harg7 arg8 harg8 arg9 harg9 arg10 harg10 arg11 harg11 arg12 harg12 x1 x2 x3 fs0) (kernelRun0_A.sl.v11 c i arg2 harg2 arg3 harg3 arg4 harg4 arg5 harg5 arg6 harg6 arg7 harg7 arg8 harg8 arg9 harg9 arg10 harg10 arg11 harg11 arg12 harg12 x1 x2 x3 fs1)⟩ : View.Piece (Elt F) S9x512x256 .f32)])
        = put i d (hTile x0 x1 x2 x3 x4 x5) :=
      (read_put arg12.view fs2 i _).trans (hfs2 ▸ congrArg (put i (arg12.view.read (Elt F) fs2)) hT)
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro; exact hf6
    isplitl [H7]
    · iexists _; isplitr; swap; · iexact H7
      ipureintro; exact hf7
    isplitl [HS0]
    · iexists _, _; isplitr; swap; · iexact HS0
      ipureintro; rfl
    isplitl [HS1]
    · iexists _, _; isplitr; swap; · iexact HS1
      ipureintro; rfl
    iexists _; isplitr; swap; · iexact HS2
    ipureintro
    exact hS2

set_option maxHeartbeats 1000000 in
/-- The last column tile writes its hidden tile, then the codes and the scales of its block of rows. -/
theorem kernelRun0_B (c : Dev nD) (i : grid0.Coords) (arg2 : Memref sig .tc .vmem S512x7168 .fp8e4m3) (harg2 : arg2.IsWhole) (arg3 : Memref sig .tc .vmem S7168x256 .i8) (harg3 : arg3.IsWhole) (arg4 : Memref sig .tc .vmem S448x256 .fp8e4m3) (harg4 : arg4.IsWhole) (arg5 : Memref sig .tc .vmem S448x256 .fp8e4m3) (harg5 : arg5.IsWhole) (arg6 : Memref sig .tc .vmem S512x128 .f32) (harg6 : arg6.IsWhole) (arg7 : Memref sig .tc .smem S1 .f32) (harg7 : arg7.IsWhole) (arg8 : Memref sig .tc .vmem S512x2304 .fp8e4m3) (harg8 : arg8.IsWhole) (arg9 : Memref sig .tc .vmem S512x128 .f32) (harg9 : arg9.IsWhole) (arg10 : Memref sig .tc .vmem S7168x256 .bf16) (harg10 : arg10.IsWhole) (arg11 : Memref sig .tc .vmem S7168x256 .bf16) (harg11 : arg11.IsWhole) (arg12 : Memref sig .tc .vmem S9x512x256 .f32) (harg12 : arg12.IsWhole) (hc0 : cond0_0 i)
    (x0 : Vec F S512x7168 .fp8e4m3) (x1 : Vec F S7168x256 .i8) (x2 : Vec F S448x256 .fp8e4m3) (x3 : Vec F S448x256 .fp8e4m3) (x4 : Vec F S512x128 .f32) (x5 : Vec F S1 .f32) (d : Vec F S9x512x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codeBlk (put i d (hTile x0 x1 x2 x3 x4 x5))) ∗ owns (c : Thread nD τ) arg9 fullShare (scaleBlk (put i d (hTile x0 x1 x2 x3 x4 x5))) ∗ (∃ d, owns (c : Thread nD τ) arg10 fullShare d) ∗ (∃ d, owns (c : Thread nD τ) arg11 fullShare d) ∗ owns (c : Thread nD τ) arg12 fullShare (put i d (hTile x0 x1 x2 x3 x4 x5))) -∗ K ⟨⟩))
          ⊢ wp frame (wpE (defs₀ (F := F)) Variants.none c none) E (cc0__main_kernel i arg2 harg2 arg3 harg3 arg4 harg4 arg5 harg5 arg6 harg6 arg7 harg7 arg8 harg8 arg9 harg9 arg10 harg10 arg11 harg11 arg12 harg12) K := by
    intro E K
    simp only [cc0__main_kernel_eq_skeleton]; unfold cc0__main_kernel_skel
    simp only [k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, ⟨%ds1, %fs1, -, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    have hv5 : kernelRun0_B.sl.v5 c i arg2 harg2 arg3 harg3 arg4 harg4 arg5 harg5 arg6 harg6 arg7 harg7 arg8 harg8 arg9 harg9 arg10 harg10 arg11 harg11 arg12 harg12 x1 x2 x3 fs0 = gateW x1 x2 :=
      (View.ld_unit_zero hz2 _ _).trans (read_gate (F := F) Variants.none c none i arg2 harg2 arg3 harg3 arg4 harg4 arg5 harg5 arg6 harg6 arg7 harg7 arg8 harg8 arg9 harg9 arg10 harg10 arg11 harg11 arg12 harg12 x1 x2 (harg5.unread x3) fs0)
    have hv11 : kernelRun0_B.sl.v11 c i arg2 harg2 arg3 harg3 arg4 harg4 arg5 harg5 arg6 harg6 arg7 harg7 arg8 harg8 arg9 harg9 arg10 harg10 arg11 harg11 arg12 harg12 x1 x2 x3 fs1 = upW x1 x3 :=
      (View.ld_unit_zero hz2 _ _).trans (read_up (F := F) Variants.none c none i arg2 harg2 arg3 harg3 arg4 harg4 arg5 harg5 arg6 harg6 arg7 harg7 arg8 harg8 arg9 harg9 arg10 harg10 arg11 harg11 arg12 harg12 x1 x3 (harg4.unread x2) fs1)
    have hv1 : View.readAt (Elt F) arg2.view (Rect.unit (s := S512x7168) ![0, 0] S512x7168.size inb_S512x7168_S512x7168_0_0).toLoadRect (harg2.unread x0) = x0 :=
      (View.ld_unit_zero hz2 _ _).trans (harg2.read_unread x0)
    have hv3 : View.readAt (Elt F) arg6.view (Rect.unit (s := S512x128) ![0, 0] S512x1.size inb_S512x128_S512x1_0_0).toLoadRect (harg6.unread x4)
        = View.ld (Val := Elt F) (S := S512x128) (e' := .f32) x4 (Rect.unit (s := S512x128) ![0, 0] S512x1.size inb_S512x128_S512x1_0_0) :=
      congrArg (fun X => View.ld (Val := Elt F) (S := S512x128) (e' := .f32) X (Rect.unit (s := S512x128) ![0, 0] S512x1.size inb_S512x128_S512x1_0_0)) (harg6.read_unread x4)
    have hr : kernelRun0_B.sl.r c arg7 harg7 x5 = x5 (ix1 (0 : Fin 1)) := by
      refine (congrFun (harg7.read_unread x5) _).trans (congrArg x5 (funext fun a => ?_))
      fin_cases a
      exact Subsingleton.elim (α := Fin 1) _ _
    have hT : k0_pay3 (View.readAt (Elt F) arg2.view (Rect.unit (s := S512x7168) ![0, 0] S512x7168.size inb_S512x7168_S512x7168_0_0).toLoadRect (harg2.unread x0))
        (View.readAt (Elt F) arg6.view (Rect.unit (s := S512x128) ![0, 0] S512x1.size inb_S512x128_S512x1_0_0).toLoadRect (harg6.unread x4))
        (kernelRun0_B.sl.r c arg7 harg7 x5) (kernelRun0_B.sl.v5 c i arg2 harg2 arg3 harg3 arg4 harg4 arg5 harg5 arg6 harg6 arg7 harg7 arg8 harg8 arg9 harg9 arg10 harg10 arg11 harg11 arg12 harg12 x1 x2 x3 fs0) (kernelRun0_B.sl.v11 c i arg2 harg2 arg3 harg3 arg4 harg4 arg5 harg5 arg6 harg6 arg7 harg7 arg8 harg8 arg9 harg9 arg10 harg10 arg11 harg11 arg12 harg12 x1 x2 x3 fs1) = hTile x0 x1 x2 x3 x4 x5 := by
      rw [hv1, hv3, hr, hv5, hv11]; rfl
    have hS2 : arg12.view.read (Elt F) (arg12.view.writes (Elt F) fs2 (kernelRun0_B.sl.HS2_1 c i arg2 harg2 arg3 harg3 arg4 harg4 arg5 harg5 arg6 harg6 arg7 harg7 arg8 harg8 arg9 harg9 arg10 harg10 arg11 harg11 arg12 harg12 x0 x1 x2 x3 x4 x5 fs0 fs1))
        = put i d (hTile x0 x1 x2 x3 x4 x5) :=
      (read_put arg12.view fs2 i _).trans (hfs2 ▸ congrArg (put i (arg12.view.read (Elt F) fs2)) hT)
    generalize hD : put i d (hTile x0 x1 x2 x3 x4 x5) = D at hS2 ⊢
    have h27 : kernelRun0_B.sl.v27 c i arg2 harg2 arg3 harg3 arg4 harg4 arg5 harg5 arg6 harg6 arg7 harg7 arg8 harg8 arg9 harg9 arg10 harg10 arg11 harg11 arg12 harg12 x0 x1 x2 x3 x4 x5 fs0 fs1 fs2 = slice0 D := congrArg (fun X => View.ld (Val := Elt F) (S := S9x512x256) (e' := .f32) X (Rect.unit (s := S9x512x256) ![0, 0, 0] S1x512x256.size inb_S9x512x256_S1x512x256_0_0_0)) hS2
    have h32 : kernelRun0_B.sl.v32 c i arg2 harg2 arg3 harg3 arg4 harg4 arg5 harg5 arg6 harg6 arg7 harg7 arg8 harg8 arg9 harg9 arg10 harg10 arg11 harg11 arg12 harg12 x0 x1 x2 x3 x4 x5 fs0 fs1 fs2 = slice1 D := congrArg (fun X => View.ld (Val := Elt F) (S := S9x512x256) (e' := .f32) X (Rect.unit (s := S9x512x256) ![1, 0, 0] S1x512x256.size inb_S9x512x256_S1x512x256_1_0_0)) hS2
    have h38 : kernelRun0_B.sl.v38 c i arg2 harg2 arg3 harg3 arg4 harg4 arg5 harg5 arg6 harg6 arg7 harg7 arg8 harg8 arg9 harg9 arg10 harg10 arg11 harg11 arg12 harg12 x0 x1 x2 x3 x4 x5 fs0 fs1 fs2 = slice2 D := congrArg (fun X => View.ld (Val := Elt F) (S := S9x512x256) (e' := .f32) X (Rect.unit (s := S9x512x256) ![2, 0, 0] S1x512x256.size inb_S9x512x256_S1x512x256_2_0_0)) hS2
    have h44 : kernelRun0_B.sl.v44 c i arg2 harg2 arg3 harg3 arg4 harg4 arg5 harg5 arg6 harg6 arg7 harg7 arg8 harg8 arg9 harg9 arg10 harg10 arg11 harg11 arg12 harg12 x0 x1 x2 x3 x4 x5 fs0 fs1 fs2 = slice3 D := congrArg (fun X => View.ld (Val := Elt F) (S := S9x512x256) (e' := .f32) X (Rect.unit (s := S9x512x256) ![3, 0, 0] S1x512x256.size inb_S9x512x256_S1x512x256_3_0_0)) hS2
    have h50 : kernelRun0_B.sl.v50 c i arg2 harg2 arg3 harg3 arg4 harg4 arg5 harg5 arg6 harg6 arg7 harg7 arg8 harg8 arg9 harg9 arg10 harg10 arg11 harg11 arg12 harg12 x0 x1 x2 x3 x4 x5 fs0 fs1 fs2 = slice4 D := congrArg (fun X => View.ld (Val := Elt F) (S := S9x512x256) (e' := .f32) X (Rect.unit (s := S9x512x256) ![4, 0, 0] S1x512x256.size inb_S9x512x256_S1x512x256_4_0_0)) hS2
    have h56 : kernelRun0_B.sl.v56 c i arg2 harg2 arg3 harg3 arg4 harg4 arg5 harg5 arg6 harg6 arg7 harg7 arg8 harg8 arg9 harg9 arg10 harg10 arg11 harg11 arg12 harg12 x0 x1 x2 x3 x4 x5 fs0 fs1 fs2 = slice5 D := congrArg (fun X => View.ld (Val := Elt F) (S := S9x512x256) (e' := .f32) X (Rect.unit (s := S9x512x256) ![5, 0, 0] S1x512x256.size inb_S9x512x256_S1x512x256_5_0_0)) hS2
    have h62 : kernelRun0_B.sl.v62 c i arg2 harg2 arg3 harg3 arg4 harg4 arg5 harg5 arg6 harg6 arg7 harg7 arg8 harg8 arg9 harg9 arg10 harg10 arg11 harg11 arg12 harg12 x0 x1 x2 x3 x4 x5 fs0 fs1 fs2 = slice6 D := congrArg (fun X => View.ld (Val := Elt F) (S := S9x512x256) (e' := .f32) X (Rect.unit (s := S9x512x256) ![6, 0, 0] S1x512x256.size inb_S9x512x256_S1x512x256_6_0_0)) hS2
    have h68 : kernelRun0_B.sl.v68 c i arg2 harg2 arg3 harg3 arg4 harg4 arg5 harg5 arg6 harg6 arg7 harg7 arg8 harg8 arg9 harg9 arg10 harg10 arg11 harg11 arg12 harg12 x0 x1 x2 x3 x4 x5 fs0 fs1 fs2 = slice7 D := congrArg (fun X => View.ld (Val := Elt F) (S := S9x512x256) (e' := .f32) X (Rect.unit (s := S9x512x256) ![7, 0, 0] S1x512x256.size inb_S9x512x256_S1x512x256_7_0_0)) hS2
    have h74 : kernelRun0_B.sl.v74 c i arg2 harg2 arg3 harg3 arg4 harg4 arg5 harg5 arg6 harg6 arg7 harg7 arg8 harg8 arg9 harg9 arg10 harg10 arg11 harg11 arg12 harg12 x0 x1 x2 x3 x4 x5 fs0 fs1 fs2 = slice8 D := congrArg (fun X => View.ld (Val := Elt F) (S := S9x512x256) (e' := .f32) X (Rect.unit (s := S9x512x256) ![8, 0, 0] S1x512x256.size inb_S9x512x256_S1x512x256_8_0_0)) hS2
    have h1 : kernelRun0_B.sl.r_1 c i arg2 harg2 arg3 harg3 arg4 harg4 arg5 harg5 arg6 harg6 arg7 harg7 arg8 harg8 arg9 harg9 arg10 harg10 arg11 harg11 arg12 harg12 x0 x1 x2 x3 x4 x5 fs0 fs1 fs2 = k0_pay9 (slice0 D) (slice1 D) (slice2 D) (slice3 D) (slice4 D) (slice5 D) := by
      unfold kernelRun0_B.sl.r_1; rw [h27, h32, h38, h44, h50, h56]
    have h5 : kernelRun0_B.sl.r_5 c i arg2 harg2 arg3 harg3 arg4 harg4 arg5 harg5 arg6 harg6 arg7 harg7 arg8 harg8 arg9 harg9 arg10 harg10 arg11 harg11 arg12 harg12 x0 x1 x2 x3 x4 x5 fs0 fs1 fs2 = words D := by
      unfold kernelRun0_B.sl.r_5 kernelRun0_B.sl.r_2 kernelRun0_B.sl.r_3 kernelRun0_B.sl.r_4 words; rw [h1, h62, h68, h74]
    have h6 : kernelRun0_B.sl.r_6 c i arg2 harg2 arg3 harg3 arg4 harg4 arg5 harg5 arg6 harg6 arg7 harg7 arg8 harg8 arg9 harg9 arg10 harg10 arg11 harg11 arg12 harg12 x0 x1 x2 x3 x4 x5 fs0 fs1 fs2 = k0_pay15 (words D) := by
      unfold kernelRun0_B.sl.r_6; rw [h5]
    have h7 : kernelRun0_B.sl.r_7 c i arg2 harg2 arg3 harg3 arg4 harg4 arg5 harg5 arg6 harg6 arg7 harg7 arg8 harg8 arg9 harg9 arg10 harg10 arg11 harg11 arg12 harg12 x0 x1 x2 x3 x4 x5 fs0 fs1 fs2 = k0_pay21 (slice5 D) := by
      unfold kernelRun0_B.sl.r_7; rw [h56]
    have h8 : kernelRun0_B.sl.r_8 c i arg2 harg2 arg3 harg3 arg4 harg4 arg5 harg5 arg6 harg6 arg7 harg7 arg8 harg8 arg9 harg9 arg10 harg10 arg11 harg11 arg12 harg12 x0 x1 x2 x3 x4 x5 fs0 fs1 fs2 = k0_pay22 (k0_pay15 (words D)) := by
      unfold kernelRun0_B.sl.r_8; rw [h6]
    have h9 : kernelRun0_B.sl.r_9 c i arg2 harg2 arg3 harg3 arg4 harg4 arg5 harg5 arg6 harg6 arg7 harg7 arg8 harg8 arg9 harg9 arg10 harg10 arg11 harg11 arg12 harg12 x0 x1 x2 x3 x4 x5 fs0 fs1 fs2 = k0_pay26 (k0_pay15 (words D)) (slice8 D) := by
      unfold kernelRun0_B.sl.r_9; rw [h6, h74]
    rw [h9, h6, h68, h62, h7, h8, h50, h44, h38, h5, h32, h27]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      exact read_codes arg8.view f6 _ _ _ _ _ _ _ _ _ (codeTile D) rfl rfl rfl rfl rfl rfl rfl rfl rfl
    isplitl [H7]
    · iexists _; isplitr; swap; · iexact H7
      ipureintro
      unfold scaleBlk
      exact View.read_writes_full arg9.view f7 inb_S512x128_S512x128_0_0 (k0_pay14 (words D)) []
    isplitl [HS0]
    · iexists _, _; isplitr; swap; · iexact HS0
      ipureintro; rfl
    isplitl [HS1]
    · iexists _, _; isplitr; swap; · iexact HS1
      ipureintro; rfl
    iexists _; isplitr; swap; · iexact HS2
    ipureintro
    exact hS2

end Cert.KernelIdeal.Gen

end
-- ==== Proof.MainLaunch.lean ====
/-
  The main call's pipeline: what every grid point leaves, the body at every point, and the run of the whole call.
-/
module

public import proofs.«01_k».proof.Proof.MainRuns

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The hidden tiles -/

/-- The hidden tile that grid point `t` computes, from the blocks it reads. -/
def tile (c : Dev nD) (t : Fin cfg0.N) : FVec F S1x512x256 .f32 :=
  hTile (iblk m c 0 t) (iblk m c 1 t) (iblk m c 2 t) (iblk m c 3 t) (iblk m c 4 t) (iblk m c 5 t)

/-- Before point `n` the buffer of hidden tiles holds the tiles of the points of the same row block that came before. -/
def Holds (c : Dev nD) (n : ℕ) (d : Vec F S9x512x256 .f32) : Prop :=
  ∀ (y : S9x512x256.Idx) (s : Fin cfg0.N), s.val = 9 * (n / 9) + (y (0 : Fin 3)).val → (y (0 : Fin 3)).val < n % 9 →
    d y = tile m c s (ix3 (0 : Fin 1) (y (1 : Fin 3) : Fin 512) (y (2 : Fin 3) : Fin 256))

/-- All nine hidden tiles of the row block of point `t`. -/
def full (c : Dev nD) (t : Fin cfg0.N) : Vec F S9x512x256 .f32 :=
  fun y => tile m c ⟨9 * (t.val / 9) + (y (0 : Fin 3)).val, by
      have h : (y (0 : Fin 3)).val < 9 := (y (0 : Fin 3)).isLt
      have ht : t.val < 144 := Nat.lt_of_lt_of_eq t.isLt N_0
      exact Nat.lt_of_lt_of_eq (by omega) N_0.symm⟩
    (ix3 (0 : Fin 1) (y (1 : Fin 3) : Fin 512) (y (2 : Fin 3) : Fin 256))

/-- The column tile of point `t`. -/
theorem coord1 (t : Fin cfg0.N) : (grid0.coords t 1).val = t.val % 9 := by
  have e1 : (grid0.coords t 1).val = t.val / 1 % 9 := Pipeline.Grid.coords_val t 1 (by decide) rfl
  rw [e1, Nat.div_one]

/-- A point that is not the last of its row block adds its tile. -/
theorem holds_succ (c : Dev nD) (t : Fin cfg0.N) (ht : ¬ t.val % 9 = 8) (d : Vec F S9x512x256 .f32) (hd : Holds m c t.val d) :
    Holds m c (t.val + 1) (put (grid0.coords t) d (tile m c t)) := by
  intro y s hs hy
  unfold put
  rw [coord1]
  by_cases h : (y (0 : Fin 3)).val = t.val % 9
  · rw [if_pos h]
    have hst : s = t := Fin.ext (by omega)
    rw [hst]
  · rw [if_neg h]
    exact hd y s (by omega) (by omega)

/-- The last point of a row block completes it. -/
theorem put_last (c : Dev nD) (t : Fin cfg0.N) (ht : t.val % 9 = 8) (d : Vec F S9x512x256 .f32) (hd : Holds m c t.val d) :
    put (grid0.coords t) d (tile m c t) = full m c t := by
  funext y
  have h9 : (y (0 : Fin 3)).val < 9 := (y (0 : Fin 3)).isLt
  unfold put full
  rw [coord1]
  by_cases h : (y (0 : Fin 3)).val = t.val % 9
  · rw [if_pos h]
    refine congrArg (fun s => tile m c s _) (Fin.ext ?_)
    show t.val = 9 * (t.val / 9) + (y (0 : Fin 3)).val
    omega
  · rw [if_neg h]
    exact hd y _ rfl (by omega)

/-! ## The pipeline's proof data -/

/-- Between the points: the two buffers of decoded weights at anything, the hidden tiles as `Holds` says. -/
def carried (c : Dev nD) (n : ℕ) : sProp 𝕄 :=
  iprop(iprop((∃ d, owns (c : Thread nD τ) scM0_0 fullShare d) ∗ (∃ d, owns (c : Thread nD τ) scM0_1 fullShare d)
    ∗ (∃ d, iprop(⌜Holds m c n d⌝ ∗ owns (c : Thread nD τ) scM0_2 fullShare d))) ∗ (∃ r, prngReg c r))

/-- The proof data of the pipeline on core `c`: the arrays as the region finds them; after a point each input's buffer at its
    block, the results' buffers at the quantised row block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codeBlk (full m c t)
    | ⟨7, _⟩ => scaleBlk (full m c t)
  Φ t := carried m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem after0_6 (c : Dev nD) (t : Fin cfg0.N) : (dats m 0 c).after 6 t = codeBlk (full m c t) := by dsimp only [dats]
theorem after0_7 (c : Dev nD) (t : Fin cfg0.N) : (dats m 0 c).after 7 t = scaleBlk (full m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the results' windows are idle -/

theorem liveAt0_6 (t : Fin cfg0.N) (h : t.val % 9 = 8) : cfg0.idle 6 (grid0.coords t) = false := by
  have hc : k0_cond1 (grid0.coords t) = 1#1 := (hcond0_0 t).mpr h
  show (!(k0_cond1 (grid0.coords t) == 1#1)) = false
  rw [hc]; rfl
theorem liveAt0_7 (t : Fin cfg0.N) (h : t.val % 9 = 8) : cfg0.idle 7 (grid0.coords t) = false := liveAt0_6 t h
theorem idleAt0_6 (t : Fin cfg0.N) (h : ¬ t.val % 9 = 8) : cfg0.idle 6 (grid0.coords t) = true := by
  have hc : ¬ k0_cond1 (grid0.coords t) = 1#1 := fun hh => h ((hcond0_0 t).mp hh)
  show (!(k0_cond1 (grid0.coords t) == 1#1)) = true
  rw [beq_false_of_ne hc]; rfl
theorem idleAt0_7 (t : Fin cfg0.N) (h : ¬ t.val % 9 = 8) : cfg0.idle 7 (grid0.coords t) = true := idleAt0_6 t h
theorem noflush0_6 (t : Fin cfg0.N) (h : ¬ t.val % 9 = 8) : (cfg0.win 6).flush t = false :=
  Bool.eq_false_iff.mpr fun hh => h ((flush0_6 t).mp hh)
theorem noflush0_7 (t : Fin cfg0.N) (h : ¬ t.val % 9 = 8) : (cfg0.win 7).flush t = false :=
  Bool.eq_false_iff.mpr fun hh => h ((flush0_7 t).mp hh)

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  unfold carried
  have hN : t.val < 144 := lt_of_lt_of_eq t.isLt (show cfg0.N = 144 from N_0)
  by_cases h0 : t.val % 9 = 8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    rw [show (dats m 0 c).leavesExact 7 t = owns (c : Thread nD τ) (ms0_7 t) fullShare ((dats m 0 c).after 7 t) from by
      unfold Dat.leavesExact; rw [liveAt0_7 t h0], after0_7]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) d) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    isplitl [HS1]; · iexact HS1
    isplitl [HS2]; · iexact HS2
    rw [show put (grid0.coords t) d (hTile (iblk m c 0 t) (iblk m c 1 t) (iblk m c 2 t) (iblk m c 3 t) (iblk m c 4 t) (iblk m c 5 t)) = full m c t from put_last m c t h0 d hd]
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexists (full m c t); isplitr
        · ipureintro; exact fun y s _ hy => absurd hy (by omega)
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [(dats m 0 c).leavesExact_idle 6 t (idleAt0_6 t h0) (noflush0_6 t h0)]
    rw [(dats m 0 c).leavesExact_idle 7 t (idleAt0_7 t h0) (noflush0_7 t h0)]
    iintro ⟨⟨⟨HS0, HS1, ⟨%d, %hd, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) d _ _) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexact HS1
    isplitl [HS2]; · iexact HS2
    iintro ⟨H0, H1, H2, H3, H4, H5, H6, H7, HS0, HS1, HS2⟩
    isplitl [HS0 HS1 HS2 Hg]
    · isplitl [HS0 HS1 HS2]
      · isplitl [HS0]
        · iexact HS0
        isplitl [HS1]
        · iexact HS1
        iexists _; isplitr
        · ipureintro; exact holds_succ m c t h0 d hd
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- Before the first point nothing is known of the hidden tiles. -/
theorem carried_in (c : Dev nD) : Pipeline.ΦA spec0 c ⊢ (carried m c 0 : sProp 𝕄) := by
  rw [PhiA0_eq]
  unfold carried
  iintro ⟨⟨HS0, HS1, ⟨%d, HS2⟩⟩, Hg⟩
  isplitl [HS0 HS1 HS2]
  · isplitl [HS0]; · iexact HS0
    isplitl [HS1]; · iexact HS1
    iexists d; isplitr
    · ipureintro; exact fun y s _ hy => absurd hy (by omega)
    iexact HS2
  iexact Hg

/-- After the last point what is known of the hidden tiles is forgotten. -/
theorem carried_out (c : Dev nD) (n : ℕ) : (carried m c n : sProp 𝕄) ⊢ Pipeline.ΦA spec0 c := by
  rw [PhiA0_eq]
  unfold carried
  iintro ⟨⟨HS0, HS1, ⟨%d, -, HS2⟩⟩, Hg⟩
  isplitl [HS0 HS1 HS2]
  · isplitl [HS0]; · iexact HS0
    isplitl [HS1]; · iexact HS1
    iexists d; iexact HS2
  iexact Hg

set_option backward.isDefEq.respectTransparency.types false in
/-- The call terminates with every array at what its windows wrote back and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

/-- The call terminates with every array at what its windows wrote back. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The call terminates, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Decode.lean ====
/-
  Four-bit numbers, two to a byte.

  A number has a sign, two exponent bits and one mantissa bit. The kernel moves these to the places they have in an eight-bit
  float, four bytes at a time in a 32-bit word, and reads the byte as such a float: the value comes out a sixty-fourth of what it
  is, and the block's scale, taken 64 times, makes up for it. The reference picks the value from the bits. Here the two are one.
-/
module

public import Idealize.ShloMosaic.Lib.BitcastFour
public import Idealize.ShloMosaic.Lib.IdealHost
public import Mathlib.Tactic.FinCases
public import Mathlib.Tactic.NormNum

@[expose] public section

set_option maxRecDepth 16384

noncomputable section

open Idealize.ShloMosaic Idealize.ShloMosaic.TcCoe Idealize.SL.Sem
open Idealize.ShloMosaic.ValueIdx

namespace Cert.Decode

/-! ## Bytes -/

/-- The eight-bit float of the low four bits of a byte, -/
def loByte (p : BitVec 8) : BitVec 8 := ((p <<< 4) &&& 0x80#8) ||| ((p <<< 2) &&& 0x1C#8)
/-- and of the high four. -/
def hiByte (p : BitVec 8) : BitVec 8 := (p &&& 0x80#8) ||| ((p >>> 2) &&& 0x1C#8)

/-- The same for the four bytes of a word. -/
def loWord (w : BitVec 32) : BitVec 32 :=
  IntOp.ori (IntOp.andi (IntOp.shli .vector w 4#32) 2155905152#32) (IntOp.andi (IntOp.shli .vector w 2#32) 471604252#32)
def hiWord (w : BitVec 32) : BitVec 32 :=
  IntOp.ori (IntOp.andi w 2155905152#32) (IntOp.andi (IntOp.shrui .vector w 2#32) 471604252#32)

theorem loWord_eq (w : BitVec 32) : loWord w = ((w <<< 4) &&& 2155905152#32) ||| ((w <<< 2) &&& 471604252#32) := rfl
theorem hiWord_eq (w : BitVec 32) : hiWord w = (w &&& 2155905152#32) ||| ((w >>> 2) &&& 471604252#32) := rfl

/-- Bit `q` of byte `k` of the word is bit `q` of the byte the bits of the word's byte `k` make. -/
theorem loWord_bit (w : BitVec 32) (p : BitVec 8) (k : Nat) (hk : k < 4) (h : ∀ q, q < 8 → w.getLsbD (8 * k + q) = p.getLsbD q)
    (q : Nat) (hq : q < 8) : (loWord w).getLsbD (8 * k + q) = (loByte p).getLsbD q := by
  rw [loWord_eq]
  unfold loByte
  have h0 := h 0 (by decide); have h1 := h 1 (by decide); have h2 := h 2 (by decide); have h3 := h 3 (by decide)
  have h4 := h 4 (by decide); have h5 := h 5 (by decide); have h6 := h 6 (by decide); have h7 := h 7 (by decide)
  interval_cases k <;> interval_cases q <;>
    simp_all [BitVec.getLsbD_or, BitVec.getLsbD_and, BitVec.getLsbD_shiftLeft, BitVec.getLsbD_ofNat]
theorem hiWord_bit (w : BitVec 32) (p : BitVec 8) (k : Nat) (hk : k < 4) (h : ∀ q, q < 8 → w.getLsbD (8 * k + q) = p.getLsbD q)
    (q : Nat) (hq : q < 8) : (hiWord w).getLsbD (8 * k + q) = (hiByte p).getLsbD q := by
  rw [hiWord_eq]
  unfold hiByte
  have h0 := h 0 (by decide); have h1 := h 1 (by decide); have h2 := h 2 (by decide); have h3 := h 3 (by decide)
  have h4 := h 4 (by decide); have h5 := h 5 (by decide); have h6 := h 6 (by decide); have h7 := h 7 (by decide)
  interval_cases k <;> interval_cases q <;>
    simp_all [BitVec.getLsbD_or, BitVec.getLsbD_and, BitVec.getLsbD_ushiftRight, BitVec.getLsbD_ofNat]

/-- A 32-bit word read at eight bits: bit `q` of byte `p` is bit `8 (p % 4) + q` of word `p / 4`. -/
theorem bitcast_32_8_getLsbD_ix2 {R r n : Nat} (x : (⟨2, ![r, n]⟩ : Shape).Idx → BitVec 32)
    (h : (⟨2, ![r, n]⟩ : Shape).Bitcasts 32 ⟨2, ![R, n]⟩ 8) (a : Fin R) (l : Fin n) (q : Nat) (hq : q < 8) (p : Fin r)
    (hp : p.val = a.val / 4) :
    (bitcast ⟨2, ![R, n]⟩ 8 x h (ix2 a l)).getLsbD q = (x (ix2 p l)).getLsbD (8 * (a.val % 4) + q) := by
  rw [bitcast_getLsbD x h _ q hq (by decide)]
  have er : (⟨2, ![R, n]⟩ : Shape).row (ix2 a l) = a.val := rfl
  have ep : ((⟨2, ![R, n]⟩ : Shape).row (ix2 a l) * 8 + q) / 32 = p.val := by rw [er]; omega
  have eq : ((⟨2, ![R, n]⟩ : Shape).row (ix2 a l) * 8 + q) % 32 = 8 * (a.val % 4) + q := by rw [er]; omega
  rw [eq]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

section
variable {R r n : Nat} (x : (⟨2, ![R, n]⟩ : Shape).Idx → BitVec 8) (h : (⟨2, ![R, n]⟩ : Shape).Bitcasts 8 ⟨2, ![r, n]⟩ 32)
  (h' : (⟨2, ![r, n]⟩ : Shape).Bitcasts 32 ⟨2, ![R, n]⟩ 8)

theorem word_bit (hR : R = 4 * r) (a : Fin R) (l : Fin n) (p : Fin r) (hp : p.val = a.val / 4) (q : Nat) (hq : q < 8) :
    (bitcast ⟨2, ![r, n]⟩ 32 x h (ix2 p l)).getLsbD (8 * (a.val % 4) + q) = (x (ix2 a l)).getLsbD q := by
  rw [bitcast_8_32_getLsbD_ix2 x h p l _ (by omega) a (by omega)]
  congr 1
  omega

/-- Bytes joined in words, the words' low halves taken, and read as bytes again. -/
theorem lo_bytes (hR : R = 4 * r) (a : Fin R) (l : Fin n) :
    bitcast ⟨2, ![R, n]⟩ 8 (fun j => loWord (bitcast ⟨2, ![r, n]⟩ 32 x h j)) h' (ix2 a l) = loByte (x (ix2 a l)) := by
  apply BitVec.eq_of_getLsbD_eq
  intro q hq
  have hp : a.val / 4 < r := by have := a.isLt; omega
  rw [bitcast_32_8_getLsbD_ix2 _ h' a l q hq ⟨a.val / 4, hp⟩ rfl]
  exact loWord_bit _ _ _ (by omega) (fun q hq => word_bit x h hR a l ⟨a.val / 4, hp⟩ rfl q hq) q hq
theorem hi_bytes (hR : R = 4 * r) (a : Fin R) (l : Fin n) :
    bitcast ⟨2, ![R, n]⟩ 8 (fun j => hiWord (bitcast ⟨2, ![r, n]⟩ 32 x h j)) h' (ix2 a l) = hiByte (x (ix2 a l)) := by
  apply BitVec.eq_of_getLsbD_eq
  intro q hq
  have hp : a.val / 4 < r := by have := a.isLt; omega
  rw [bitcast_32_8_getLsbD_ix2 _ h' a l q hq ⟨a.val / 4, hp⟩ rfl]
  exact hiWord_bit _ _ _ (by omega) (fun q hq => word_bit x h hR a l ⟨a.val / 4, hp⟩ rfl q hq) q hq
end

/-! ## Values -/

/-- Whether a bit of `w` that `k` picks is set. -/
def bit (w k : BitVec 32) : BitVec 1 := IntOp.cmpi .ne (IntOp.andi w k) 0#32

/-- The magnitude the low three bits of `w` stand for: 0, 1/2, 1, 3/2, 2, 3, 4, 6. -/
def mag (w : BitVec 32) : EReal :=
  Scalar.select (bit w 4#32)
    (Scalar.select (bit w 2#32) (Scalar.select (bit w 1#32) (Ideal.ofBits .bf16 0x40C0#16) (Ideal.ofBits .bf16 0x4080#16))
      (Scalar.select (bit w 1#32) (Ideal.ofBits .bf16 0x4040#16) (Ideal.ofBits .bf16 0x4000#16)))
    (Scalar.select (bit w 2#32) (Scalar.select (bit w 1#32) (Ideal.ofBits .bf16 0x3FC0#16) (Ideal.ofBits .bf16 0x3F80#16))
      (Scalar.select (bit w 1#32) (Ideal.ofBits .bf16 0x3F00#16) (Ideal.ofBits .bf16 0x0000#16)))

/-- The number the low four bits of `w` stand for. -/
def number (w : BitVec 32) : EReal :=
  Scalar.select (bit w 8#32) (Ideal.ofBits .bf16 0x0000#16 - mag w) (mag w)

/-- The low and the high number of a byte. -/
def loNumber (p : BitVec 8) : EReal := number (IntOp.andi (p.setWidth 32) 15#32)
def hiNumber (p : BitVec 8) : EReal := number (IntOp.shrsi .vector (p.setWidth 32) 4#32)

theorem six_bits : Ideal.ofBits .bf16 0x40C0#16 = ((6 : ℝ) : EReal) := by
  simp [Ideal.ofBits, Ideal.ieee, -EReal.coe_mul]; norm_num
theorem four_bits : Ideal.ofBits .bf16 0x4080#16 = ((4 : ℝ) : EReal) := by
  simp [Ideal.ofBits, Ideal.ieee, -EReal.coe_mul]; norm_num
theorem three_bits : Ideal.ofBits .bf16 0x4040#16 = ((3 : ℝ) : EReal) := by
  simp [Ideal.ofBits, Ideal.ieee, -EReal.coe_mul]; norm_num
theorem two_bits : Ideal.ofBits .bf16 0x4000#16 = ((2 : ℝ) : EReal) := by
  simp [Ideal.ofBits, Ideal.ieee, -EReal.coe_mul]; norm_num
theorem threeHalves_bits : Ideal.ofBits .bf16 0x3FC0#16 = ((3 / 2 : ℝ) : EReal) := by
  simp [Ideal.ofBits, Ideal.ieee, -EReal.coe_mul]; norm_num
theorem one_bits : Ideal.ofBits .bf16 0x3F80#16 = ((1 : ℝ) : EReal) := by
  simp [Ideal.ofBits, Ideal.ieee, -EReal.coe_mul, -EReal.coe_one]; norm_num
theorem half_bits : Ideal.ofBits .bf16 0x3F00#16 = ((1 / 2 : ℝ) : EReal) := by
  simp [Ideal.ofBits, Ideal.ieee, -EReal.coe_mul]; norm_num
theorem zero_bits : Ideal.ofBits .bf16 0x0000#16 = ((0 : ℝ) : EReal) := by
  simp [Ideal.ofBits, Ideal.ieee, -EReal.coe_mul]
theorem gain_bits : Ideal.ofBits .bf16 0x4280#16 = ((64 : ℝ) : EReal) := by
  simp [Ideal.ofBits, Ideal.ieee, -EReal.coe_mul]; norm_num

/-- The eight-bit float of a byte without its three lowest mantissa bits' lowest two, by its sign, its exponent and its mantissa. -/
theorem float_eq (b : BitVec 8) (neg : Bool) (ex fr : Nat) (hn : (b.extractLsb' 7 1 == 1#1) = neg) (he : (b.extractLsb' 3 4).toNat = ex)
    (hf : (b.extractLsb' 0 3).toNat = fr) (hx : ex < 15) :
    Ideal.ofBits .fp8e4m3 b = if ex = 0 then (((if neg then -1 else 1 : ℝ) * fr * (2 : ℝ) ^ (-9 : Int) : ℝ) : EReal)
      else (((if neg then -1 else 1 : ℝ) * (8 + fr : Nat) * (2 : ℝ) ^ ((ex : Int) - 10) : ℝ) : EReal) := by
  subst hn he hf
  simp only [Ideal.ofBits, Ideal.e4m3fn]
  rw [if_neg (by omega)]

/-- A byte's eight-bit float, 64 times, is the number its low four bits stand for: at the sixteen patterns. -/
theorem low_eq (n : Fin 16) :
    Ideal.ofBits .fp8e4m3 (loByte (BitVec.ofNat 8 n.val)) * Ideal.ofBits .bf16 0x4280#16 = number (BitVec.ofNat 32 n.val) := by
  have hb : ∀ n : Fin 16, ((loByte (BitVec.ofNat 8 n.val)).extractLsb' 7 1 == 1#1) = decide (8 ≤ n.val)
      ∧ ((loByte (BitVec.ofNat 8 n.val)).extractLsb' 3 4).toNat = n.val % 8 / 2
      ∧ ((loByte (BitVec.ofNat 8 n.val)).extractLsb' 0 3).toNat = 4 * (n.val % 2) := by decide +kernel
  have hw : ∀ n : Fin 16, bit (BitVec.ofNat 32 n.val) 8#32 = BitVec.ofNat 1 (n.val / 8) ∧ bit (BitVec.ofNat 32 n.val) 4#32 = BitVec.ofNat 1 (n.val / 4 % 2)
      ∧ bit (BitVec.ofNat 32 n.val) 2#32 = BitVec.ofNat 1 (n.val / 2 % 2) ∧ bit (BitVec.ofNat 32 n.val) 1#32 = BitVec.ofNat 1 (n.val % 2) := by
    decide +kernel
  have one (a b : EReal) : Scalar.select 1#1 a b = a := rfl
  have nil (a b : EReal) : Scalar.select 0#1 a b = b := rfl
  obtain ⟨h1, h2, h3⟩ := hb n
  obtain ⟨w8, w4, w2, w1⟩ := hw n
  rw [float_eq _ _ _ _ h1 h2 h3 (by have := n.isLt; omega)]
  unfold number mag
  rw [w8, w4, w2, w1, six_bits, four_bits, three_bits, two_bits, threeHalves_bits, one_bits, half_bits, zero_bits, gain_bits]
  clear h1 h2 h3 w8 w4 w2 w1 hb hw
  fin_cases n <;> norm_num [one, nil, -EReal.coe_mul, ← EReal.coe_mul, ← EReal.coe_sub]

theorem lo_mul (p : BitVec 8) : Ideal.ofBits .fp8e4m3 (loByte p) * Ideal.ofBits .bf16 0x4280#16 = loNumber p := by
  have h : ∀ p : BitVec 8, loByte p = loByte (BitVec.ofNat 8 (p.toNat % 16)) ∧ IntOp.andi (p.setWidth 32) 15#32 = BitVec.ofNat 32 (p.toNat % 16) := by
    decide +kernel
  unfold loNumber
  rw [(h p).1, (h p).2]
  exact low_eq ⟨p.toNat % 16, Nat.mod_lt _ (by decide)⟩
theorem hi_mul (p : BitVec 8) : Ideal.ofBits .fp8e4m3 (hiByte p) * Ideal.ofBits .bf16 0x4280#16 = hiNumber p := by
  have h : ∀ p : BitVec 8, hiByte p = loByte (BitVec.ofNat 8 (p.toNat / 16)) ∧ IntOp.shrsi .vector (p.setWidth 32) 4#32 = BitVec.ofNat 32 (p.toNat / 16) := by
    decide +kernel
  unfold hiNumber
  rw [(h p).1, (h p).2]
  exact low_eq ⟨p.toNat / 16, by have := p.isLt; omega⟩

/-- The kernel's weight, the float times the scale taken 64 times, is the number times the scale. -/
theorem lo_scaled (p : BitVec 8) (s : EReal) :
    Ideal.ofBits .fp8e4m3 (loByte p) * (s * Ideal.ofBits .bf16 0x4280#16) = loNumber p * s := by
  rw [← lo_mul, mul_comm s, mul_assoc]
theorem hi_scaled (p : BitVec 8) (s : EReal) :
    Ideal.ofBits .fp8e4m3 (hiByte p) * (s * Ideal.ofBits .bf16 0x4280#16) = hiNumber p * s := by
  rw [← hi_mul, mul_comm s, mul_assoc]

end Cert.Decode
-- ==== Proof.Hidden.lean ====
/-
  The hidden row block of the second call, as a function of what it is made from: a row of codes, the row's scale, the packed
  weights with the scales of their blocks of sixteen, and the weights' own scale.
-/
module

public import proofs.«01_k».proof.Proof.Decode
public import proofs.«01_k».proof.Proof.Scale
public import Idealize.ShloMosaic.Lib.Pointwise

@[expose] public section

noncomputable section

open Idealize.ShloMosaic Idealize.ShloMosaic.TcCoe Idealize.SL.Sem
open Idealize.ShloMosaic.Pointwise

namespace Cert.Hidden

/-- Entry `(k, c)` of the weights: the number of the packed byte, times the scale of the block of sixteen rows it lies in. -/
def weight {N : Nat} (num : BitVec 8 → EReal) (wp : (⟨2, ![7168, N]⟩ : Shape).Idx → BitVec 8) (sc : (⟨2, ![448, N]⟩ : Shape).Idx → EReal)
    (k : Fin 7168) (c : Fin N) : EReal :=
  num (wp (ix2 k c)) * sc (ix2 (⟨k.val / 16, by have := k.isLt; omega⟩ : Fin 448) c)

/-- Row `r` of `x` times column `c` of the weights `W`, scaled. -/
def scaled {n N : Nat} (x : (⟨2, ![n, 7168]⟩ : Shape).Idx → EReal) (W : Fin 7168 → Fin N → EReal) (t g : EReal) (r : Fin n) (c : Fin N) : EReal :=
  (Ideal.ofBits .f32 0x00000000#32 + ∑ k : Fin 7168, x (ix2 r k) * W k c) * t * g

/-- The gate through its sigmoid, times the other half. -/
def gated (g u : EReal) : EReal := g * Ideal.logistic g * u

/-- Entry `(r, c)` of the hidden rows. -/
def hiddenAt {n N : Nat} (x : (⟨2, ![n, 7168]⟩ : Shape).Idx → EReal) (tok : (⟨2, ![n, 128]⟩ : Shape).Idx → EReal) (g : EReal)
    (wp : (⟨2, ![7168, N]⟩ : Shape).Idx → BitVec 8) (sg su : (⟨2, ![448, N]⟩ : Shape).Idx → EReal) (r : Fin n) (c : Fin N) : EReal :=
  gated (scaled x (weight Decode.loNumber wp sg) (tok (ix2 r (0 : Fin 128))) g r c)
    (scaled x (weight Decode.hiNumber wp su) (tok (ix2 r (0 : Fin 128))) g r c)

/-- Two hidden entries made from the same things are the same. -/
theorem hiddenAt_congr {n n' N N' : Nat} (x : (⟨2, ![n, 7168]⟩ : Shape).Idx → EReal) (x' : (⟨2, ![n', 7168]⟩ : Shape).Idx → EReal)
    (tok : (⟨2, ![n, 128]⟩ : Shape).Idx → EReal) (tok' : (⟨2, ![n', 128]⟩ : Shape).Idx → EReal) (g g' : EReal)
    (wp : (⟨2, ![7168, N]⟩ : Shape).Idx → BitVec 8) (wp' : (⟨2, ![7168, N']⟩ : Shape).Idx → BitVec 8)
    (sg su : (⟨2, ![448, N]⟩ : Shape).Idx → EReal) (sg' su' : (⟨2, ![448, N']⟩ : Shape).Idx → EReal)
    (r : Fin n) (r' : Fin n') (c : Fin N) (c' : Fin N') (hx : ∀ k, x (ix2 r k) = x' (ix2 r' k))
    (ht : tok (ix2 r (0 : Fin 128)) = tok' (ix2 r' (0 : Fin 128))) (hg : g = g') (hw : ∀ k, wp (ix2 k c) = wp' (ix2 k c'))
    (hsg : ∀ k, sg (ix2 k c) = sg' (ix2 k c')) (hsu : ∀ k, su (ix2 k c) = su' (ix2 k c')) :
    hiddenAt x tok g wp sg su r c = hiddenAt x' tok' g' wp' sg' su' r' c' := by
  unfold hiddenAt scaled weight
  simp only [hx, ht, hg, hw, hsg, hsu]

/-! ## The second call's results -/

/-- The even columns of the weights' scales, which are the gate's, -/
def evenCols (ws : (⟨2, ![448, 4608]⟩ : Shape).Idx → EReal) : (⟨2, ![448, 2304]⟩ : Shape).Idx → EReal :=
  fun y => ws (ix2 (y 0 : Fin 448) (⟨2 * (y 1).val, by have h : (y 1).val < 2304 := (y 1).isLt; omega⟩ : Fin 4608))
/-- and the odd ones, which are the other half's. -/
def oddCols (ws : (⟨2, ![448, 4608]⟩ : Shape).Idx → EReal) : (⟨2, ![448, 2304]⟩ : Shape).Idx → EReal :=
  fun y => ws (ix2 (y 0 : Fin 448) (⟨2 * (y 1).val + 1, by have h : (y 1).val < 2304 := (y 1).isLt; omega⟩ : Fin 4608))

/-- The index of an array of one number. -/
def nil : (⟨0, ![]⟩ : Shape).Idx := fun a => a.elim0

/-- All the hidden rows, from the five arguments. -/
def rows (x : (⟨2, ![8192, 7168]⟩ : Shape).Idx → EReal) (tok : (⟨2, ![8192, 128]⟩ : Shape).Idx → EReal)
    (wp : (⟨2, ![7168, 2304]⟩ : Shape).Idx → BitVec 8) (ws : (⟨2, ![448, 4608]⟩ : Shape).Idx → EReal) (g : (⟨0, ![]⟩ : Shape).Idx → EReal) :
    (⟨2, ![8192, 2304]⟩ : Shape).Idx → EReal :=
  fun y => hiddenAt (n := 8192) (N := 2304) x tok (g nil) wp (evenCols ws) (oddCols ws) (y 0) (y 1)

/-- The codes of rows, -/
def codes (H : (⟨2, ![8192, 2304]⟩ : Shape).Idx → EReal) : (⟨2, ![8192, 2304]⟩ : Shape).Idx → EReal :=
  fun y => Scale.code (Scale.rowInv H (y 0)) (H y)
/-- and their scales. -/
def scales (H : (⟨2, ![8192, 2304]⟩ : Shape).Idx → EReal) : (⟨2, ![8192, 128]⟩ : Shape).Idx → EReal := fun y => Scale.rowScale H (y 0)

end Cert.Hidden
-- ==== Proof.MainTile.lean ====
/-
  One hidden tile of the second call, read at an index: the weights the loop leaves are the packed numbers times their scales, and
  the tile is the gated product of the block of rows with the block of columns.
-/
module

public import proofs.«01_k».proof.Proof.MainRuns
public import proofs.«01_k».proof.Proof.Hidden
public import Idealize.ShloMosaic.Lib.Pointwise

@[expose] public section

set_option maxRecDepth 16384

noncomputable section

open Idealize.ShloMosaic Idealize.ShloMosaic.TcCoe Idealize.SL.Sem
open Idealize.ShloMosaic.Pointwise

namespace Cert.KernelIdeal.Value
open Cert.KernelIdeal Cert.KernelIdeal.Gen Cert.Decode Cert.Hidden

/-- A trip's rows of scales, each put at its sixteen rows of weights. -/
theorem expand_apply (v : FVec Ideal S32x256 .bf16) (j : S512x256.Idx) :
    shapeCast S512x256 (broadcastTo S32x16x256 (shapeCast S32x1x256 (shapeCast S32x1x256 v shapeCasts_S32x256_S32x1x256)
      shapeCasts_S32x1x256_S32x1x256) broadcasts_S32x1x256_S32x16x256) shapeCasts_S32x16x256_S512x256 j
      = v (ix2 (⟨(j 0).val / 16, by have h : (j 0).val < 512 := (j 0).isLt; omega⟩ : Fin 32) (j 1 : Fin 256)) := by
  pointwise

theorem same_apply {e : Type} (v : S512x256.Idx → e) (j : S512x256.Idx) : shapeCast S512x256 v shapeCasts_S512x256_S512x256 j = v j := by
  pointwise

theorem same_scales {e : Type} (v : S32x256.Idx → e) (j : S32x256.Idx) : shapeCast S32x256 v shapeCasts_S32x256_S32x256 j = v j := by
  pointwise

/-- The kernel's gate weight is the low number of its byte, scaled, -/
theorem lo_apply (p : Vec Ideal S512x256 .i8) (s : Vec Ideal S32x256 .fp8e4m3) (j : S512x256.Idx) :
    k0_pay1 (k0_pay8 p s) j
      = loNumber (p j) * s (ix2 (⟨(j 0).val / 16, by have h : (j 0).val < 512 := (j 0).isLt; omega⟩ : Fin 32) (j 1 : Fin 256)) := by
  refine Eq.trans ?_ (lo_scaled _ _)
  have hb : _ = loByte (p j) := (congrArg _ (ValueIdx.eq_ix2 j)).trans ((lo_bytes p bitcasts_S512x256_w8_S128x256_w32
    bitcasts_S128x256_w32_S512x256_w8 rfl (j 0) (j 1)).trans (congrArg (fun j => loByte (p j)) (ValueIdx.eq_ix2 j).symm))
  rw [← hb]
  unfold k0_pay1 k0_pay8
  refine (same_apply _ j).trans (congrArg _ ((expand_apply _ j).trans ?_))
  exact congrArg (· * _) (same_scales _ _)

/-- and its up weight the high one's. -/
theorem hi_apply (p : Vec Ideal S512x256 .i8) (s : Vec Ideal S32x256 .fp8e4m3) (j : S512x256.Idx) :
    k0_pay2 (k0_pay6 p) (k0_pay7 s) j
      = hiNumber (p j) * s (ix2 (⟨(j 0).val / 16, by have h : (j 0).val < 512 := (j 0).isLt; omega⟩ : Fin 32) (j 1 : Fin 256)) := by
  refine Eq.trans ?_ (hi_scaled _ _)
  have hb : _ = hiByte (p j) := (congrArg _ (ValueIdx.eq_ix2 j)).trans ((hi_bytes p bitcasts_S512x256_w8_S128x256_w32
    bitcasts_S128x256_w32_S512x256_w8 rfl (j 0) (j 1)).trans (congrArg (fun j => hiByte (p j)) (ValueIdx.eq_ix2 j).symm))
  rw [← hb]
  unfold k0_pay2 k0_pay6 k0_pay7
  refine (same_apply _ j).trans (congrArg _ ((expand_apply _ j).trans ?_))
  exact congrArg (· * _) (same_scales _ _)

/-- The gate weights the loop leaves, read at an index, -/
theorem gateW_apply (x1 : Vec Ideal S7168x256 .i8) (x2 : Vec Ideal S448x256 .fp8e4m3) (k : Fin 7168) (c : Fin 256) :
    gateW x1 x2 (ix2 k c) = weight loNumber x1 x2 k c := by
  have hk := k.isLt
  refine (lo_apply _ _ _).trans ?_
  unfold weight
  refine congrArg₂ (fun (a : BitVec 8) (b : EReal) => loNumber a * b) (congrArg x1 ?_) (congrArg x2 ?_)
  · funext a
    apply Fin.ext
    match a with
    | ⟨0, _⟩ =>
      show k0_off1 (tripOf (ix2 k c)) 0 + 1 * (k.val % 512) = k.val
      rw [congrFun (off1_eq _) 0]
      show 512 * (k.val / 512) + 1 * (k.val % 512) = k.val
      omega
    | ⟨1, _⟩ =>
      show k0_off1 (tripOf (ix2 k c)) 1 + 1 * c.val = c.val
      rw [congrFun (off1_eq _) 1]
      show 0 + 1 * c.val = c.val
      omega
  · funext a
    apply Fin.ext
    match a with
    | ⟨0, _⟩ =>
      show k0_off2 (tripOf (ix2 k c)) 0 + 1 * (k.val % 512 / 16) = k.val / 16
      rw [congrFun (off2_eq _) 0]
      show 32 * (k.val / 512) + 1 * (k.val % 512 / 16) = k.val / 16
      omega
    | ⟨1, _⟩ =>
      show k0_off2 (tripOf (ix2 k c)) 1 + 1 * c.val = c.val
      rw [congrFun (off2_eq _) 1]
      show 0 + 1 * c.val = c.val
      omega

/-- and the up weights. -/
theorem upW_apply (x1 : Vec Ideal S7168x256 .i8) (x3 : Vec Ideal S448x256 .fp8e4m3) (k : Fin 7168) (c : Fin 256) :
    upW x1 x3 (ix2 k c) = weight hiNumber x1 x3 k c := by
  have hk := k.isLt
  refine (hi_apply _ _ _).trans ?_
  unfold weight
  refine congrArg₂ (fun (a : BitVec 8) (b : EReal) => hiNumber a * b) (congrArg x1 ?_) (congrArg x3 ?_)
  · funext a
    apply Fin.ext
    match a with
    | ⟨0, _⟩ =>
      show k0_off1 (tripOf (ix2 k c)) 0 + 1 * (k.val % 512) = k.val
      rw [congrFun (off1_eq _) 0]
      show 512 * (k.val / 512) + 1 * (k.val % 512) = k.val
      omega
    | ⟨1, _⟩ =>
      show k0_off1 (tripOf (ix2 k c)) 1 + 1 * c.val = c.val
      rw [congrFun (off1_eq _) 1]
      show 0 + 1 * c.val = c.val
      omega
  · funext a
    apply Fin.ext
    match a with
    | ⟨0, _⟩ =>
      show k0_off2 (tripOf (ix2 k c)) 0 + 1 * (k.val % 512 / 16) = k.val / 16
      rw [congrFun (off2_eq _) 0]
      show 32 * (k.val / 512) + 1 * (k.val % 512 / 16) = k.val / 16
      omega
    | ⟨1, _⟩ =>
      show k0_off2 (tripOf (ix2 k c)) 1 + 1 * c.val = c.val
      rw [congrFun (off2_eq _) 1]
      show 0 + 1 * c.val = c.val
      omega

theorem pay3_apply (x : Vec Ideal S512x7168 .fp8e4m3) (t : Vec Ideal S512x1 .f32) (g : Elt Ideal .f32) (a b : Vec Ideal S7168x256 .bf16) (j : S1x512x256.Idx) :
    k0_pay3 x t g a b j = gated (scaled (n := 512) (N := 256) x (fun k c => a (ix2 k c)) (t (ix2 (j 1 : Fin 512) (0 : Fin 1))) g (j 1) (j 2))
      (scaled (n := 512) (N := 256) x (fun k c => b (ix2 k c)) (t (ix2 (j 1 : Fin 512) (0 : Fin 1))) g (j 1) (j 2)) := by
  unfold gated scaled
  pointwise [k0_pay3]

/-- The hidden tile, read at an index. -/
theorem hTile_apply (x0 : Vec Ideal S512x7168 .fp8e4m3) (x1 : Vec Ideal S7168x256 .i8) (x2 x3 : Vec Ideal S448x256 .fp8e4m3)
    (x4 : Vec Ideal S512x128 .f32) (x5 : Vec Ideal S1 .f32) (r : Fin 512) (l : Fin 256) :
    hTile x0 x1 x2 x3 x4 x5 (ix3 (0 : Fin 1) r l) = hiddenAt (n := 512) (N := 256) x0 x4 (x5 (ix1 (0 : Fin 1))) x1 x2 x3 r l := by
  unfold hTile
  refine (pay3_apply _ _ _ _ _ _).trans ?_
  unfold hiddenAt
  have e : (ix2 r (0 : Fin 128) : S512x128.Idx)
      = (Rect.unit (s := S512x128) ![0, 0] S512x1.size inb_S512x128_S512x1_0_0).idx (ix2 r (0 : Fin 1)) := by
    funext a
    apply Fin.ext
    match a with
    | ⟨0, _⟩ => show r.val = 0 + 1 * r.val; omega
    | ⟨1, _⟩ => rfl
  rw [e, show weight loNumber x1 x2 = fun k c => gateW x1 x2 (ix2 k c) from funext fun k => funext fun c => (gateW_apply x1 x2 k c).symm,
    show weight hiNumber x1 x3 = fun k c => upW x1 x3 (ix2 k c) from funext fun k => funext fun c => (upW_apply x1 x3 k c).symm]
  rfl

end Cert.KernelIdeal.Value
-- ==== Proof.MainQuant.lean ====
/-
  The second call's own quantiser: the nine hidden tiles of a row block, quantised row by row.

  The kernel takes the largest magnitude of each tile's part of a row, then of the nine, and codes every tile with the row's scale.
  Laid side by side the tiles are a block of rows, and this is the quantiser of the first call on it.
-/
module

public import proofs.«01_k».proof.Proof.MainRuns
public import proofs.«01_k».proof.Proof.Scale
public import Idealize.ShloMosaic.Lib.Pointwise

@[expose] public section

set_option maxRecDepth 16384

noncomputable section

open Idealize.ShloMosaic Idealize.ShloMosaic.TcCoe Idealize.SL.Sem
open Idealize.ShloMosaic.Pointwise

namespace Cert.KernelIdeal.Value
open Cert.KernelIdeal Cert.KernelIdeal.Gen Cert.Scale

/-- The nine tiles side by side. -/
def flat (D : Vec Ideal S9x512x256 .f32) : (⟨2, ![512, 2304]⟩ : Shape).Idx → EReal :=
  fun y => D (ix3 (⟨(y 1).val / 256, by have h : (y 1).val < 2304 := (y 1).isLt; omega⟩ : Fin 9) (y 0 : Fin 512)
    (⟨(y 1).val % 256, Nat.mod_lt _ (by decide)⟩ : Fin 256))

/-- Tile `n` of the nine. -/
def tileOf (D : Vec Ideal S9x512x256 .f32) (n : Fin 9) : Vec Ideal S1x512x256 .f32 := fun y => D (ix3 n (y 1 : Fin 512) (y 2 : Fin 256))

/-- The largest magnitude in row `r` of a tile. -/
def tileMax (T : Vec Ideal S1x512x256 .f32) (r : Fin 512) : EReal :=
  (Finset.univ : Finset (Fin 256)).fold max (Ideal.ofBits .f32 0xFF800000#32)
    (fun l => max (T (ix3 (0 : Fin 1) r l)) (-(T (ix3 (0 : Fin 1) r l))))

theorem tmax_apply (T : FVec Ideal S1x512x256 .f32) (j : S512x1.Idx) :
    shapeCast S512x1 (multiReduction .maximumf [1] S512 (absf (shapeCast S512x256 T shapeCasts_S1x512x256_S512x256)) 0xFF800000#32
      reduces_S512x256_S512 (.inl rfl) rfl) shapeCasts_S512_S512x1 j = tileMax T (j 0) := by
  unfold tileMax
  pointwise
  try rfl

/-- The nine tiles' maxima, one after another. -/
def maxOf (T : Fin 9 → Vec Ideal S1x512x256 .f32) (r : Fin 512) : EReal :=
  max (max (max (max (max (max (max (max (tileMax (T 0) r) (tileMax (T 1) r)) (tileMax (T 2) r)) (tileMax (T 3) r)) (tileMax (T 4) r))
    (tileMax (T 5) r)) (tileMax (T 6) r)) (tileMax (T 7) r)) (tileMax (T 8) r)

theorem maximumf_fun (a b : FVec Ideal S512x1 .f32) : maximumf a b = fun j => max (a j) (b j) := rfl

theorem pay9_eq (a b c d e f : Vec Ideal S1x512x256 .f32) :
    k0_pay9 a b c d e f = fun j => max (max (max (max (max (tileMax a (j 0)) (tileMax b (j 0))) (tileMax c (j 0))) (tileMax d (j 0)))
      (tileMax e (j 0))) (tileMax f (j 0)) := by
  have h := fun T : FVec Ideal S1x512x256 .f32 => funext (tmax_apply T)
  unfold k0_pay9
  dsimp only
  rw [h a, h b, h c, h d, h e, h f]
  rfl

theorem wide_apply (a : FVec Ideal S512x1 .f32) (j : S512x128.Idx) :
    broadcastTo S512x128 (shapeCast S512x1 a shapeCasts_S512x1_S512x1) broadcasts_S512x1_S512x128 j = a (ix2 (j 0 : Fin 512) (0 : Fin 1)) := by
  pointwise
  try rfl

theorem pay10_eq (v : FVec Ideal S512x1 .f32) (a b c : Vec Ideal S1x512x256 .f32) :
    k0_pay10 v a b c = fun j => cut (max (max (max (v (ix2 (j 0 : Fin 512) (0 : Fin 1))) (tileMax a (j 0))) (tileMax b (j 0))) (tileMax c (j 0))) := by
  have h := fun T : FVec Ideal S1x512x256 .f32 => funext (tmax_apply T)
  unfold k0_pay10
  dsimp only
  rw [h a, h b, h c]
  exact (cut_vec _).trans (funext fun j => congrArg cut (wide_apply _ j))

/-- The searched exponent of every row, at each of its 128 lanes. -/
theorem exp_eq (v : FVec Ideal S512x1 .f32) (a b c : Vec Ideal S1x512x256 .f32) :
    k0_pay13 (k0_pay10 v a b c) (k0_pay11 v a b c) (k0_pay12 v a b c) = fun j => expWord (k0_pay10 v a b c j) := by
  have h11 : k0_pay11 v a b c = fun j => step (k0_pay10 v a b c j) (step (k0_pay10 v a b c j) 0#32 128#32) 64#32 := by
    unfold k0_pay11
    generalize k0_pay10 v a b c = y
    dsimp only
    exact step_vec _ _ _ _ (step_vec _ _ _ _ rfl)
  unfold k0_pay12 k0_pay13
  generalize k0_pay11 v a b c = w at h11 ⊢
  generalize k0_pay10 v a b c = y at h11 ⊢
  dsimp only
  rw [step_vec y _ _ _ (step_vec y _ _ _ (step_vec y _ _ _ (step_vec y _ _ _ (step_vec y _ _ _ (step_vec y _ _ _ h11)))))]
  exact expWord_vec y _ rfl

/-! ## The nine maxima are the row's -/

theorem fold_max_le (n : Nat) (b c : EReal) (f : Fin n → EReal) : (Finset.univ : Finset (Fin n)).fold max b f ≤ c ↔ b ≤ c ∧ ∀ k, f k ≤ c := by
  rw [Finset.fold_max_le]
  simp

theorem maxOf_eq (D : Vec Ideal S9x512x256 .f32) (r : Fin 512) : maxOf (tileOf D) r = rowMax (flat D) r := by
  refine eq_of_forall_ge_iff fun c => ?_
  unfold maxOf tileMax rowMax
  simp only [max_le_iff, fold_max_le]
  constructor
  · rintro ⟨⟨⟨⟨⟨⟨⟨⟨h0, h1⟩, h2⟩, h3⟩, h4⟩, h5⟩, h6⟩, h7⟩, h8⟩
    have h : ∀ (n : Fin 9) (l : Fin 256), tileOf D n (ix3 (0 : Fin 1) r l) ≤ c ∧ -(tileOf D n (ix3 (0 : Fin 1) r l)) ≤ c := by
      intro n
      fin_cases n
      exacts [h0.2, h1.2, h2.2, h3.2, h4.2, h5.2, h6.2, h7.2, h8.2]
    exact ⟨h0.1, fun k => h ⟨k.val / 256, by have := k.isLt; omega⟩ ⟨k.val % 256, Nat.mod_lt _ (by decide)⟩⟩
  · rintro ⟨hb, h⟩
    have e : ∀ (n : Fin 9) (l : Fin 256), flat D (ix2 r (⟨256 * n.val + l.val, by have := n.isLt; have := l.isLt; omega⟩ : Fin 2304))
        = tileOf D n (ix3 (0 : Fin 1) r l) := by
      intro n l
      have hl := l.isLt
      show D (ix3 ⟨(256 * n.val + l.val) / 256, _⟩ r ⟨(256 * n.val + l.val) % 256, _⟩) = D (ix3 n r l)
      congr 2
      · exact Fin.ext (show (256 * n.val + l.val) / 256 = n.val by omega)
      · exact Fin.ext (show (256 * n.val + l.val) % 256 = l.val by omega)
    have h' : ∀ (n : Fin 9) (l : Fin 256), tileOf D n (ix3 (0 : Fin 1) r l) ≤ c ∧ -(tileOf D n (ix3 (0 : Fin 1) r l)) ≤ c := fun n l => by
      rw [← e n l]; exact h _
    exact ⟨⟨⟨⟨⟨⟨⟨⟨⟨hb, h' 0⟩, hb, h' 1⟩, hb, h' 2⟩, hb, h' 3⟩, hb, h' 4⟩, hb, h' 5⟩, hb, h' 6⟩, hb, h' 7⟩, hb, h' 8⟩

theorem slice_eq (D : Vec Ideal S9x512x256 .f32) (n : Fin 9) (inb) :
    View.ld (Val := Elt Ideal) (S := S9x512x256) (e' := .f32) D (Rect.unit (s := S9x512x256) ![n.val, 0, 0] S1x512x256.size inb) = tileOf D n := by
  funext y
  show D _ = D _
  congr 1
  funext a
  apply Fin.ext
  have h0 : (y 0).val < 1 := (y 0).isLt
  match a with
  | ⟨0, _⟩ => show n.val + 1 * (y 0).val = n.val; omega
  | ⟨1, _⟩ => show 0 + 1 * (y 1).val = (y 1).val; omega
  | ⟨2, _⟩ => show 0 + 1 * (y 2).val = (y 2).val; omega

theorem words_eq (D : Vec Ideal S9x512x256 .f32) : words D = fun j => expWord (cut (rowMax (flat D) (j 0))) := by
  unfold words
  refine (exp_eq _ _ _ _).trans (funext fun j => congrArg expWord ?_)
  refine (congrFun (pay10_eq _ _ _ _) j).trans (congrArg cut ?_)
  refine Eq.trans ?_ (maxOf_eq D (j 0))
  unfold maxOf
  rw [pay9_eq, ← slice_eq D 0 inb_S9x512x256_S1x512x256_0_0_0, ← slice_eq D 1 inb_S9x512x256_S1x512x256_1_0_0,
    ← slice_eq D 2 inb_S9x512x256_S1x512x256_2_0_0, ← slice_eq D 3 inb_S9x512x256_S1x512x256_3_0_0,
    ← slice_eq D 4 inb_S9x512x256_S1x512x256_4_0_0, ← slice_eq D 5 inb_S9x512x256_S1x512x256_5_0_0,
    ← slice_eq D 6 inb_S9x512x256_S1x512x256_6_0_0, ← slice_eq D 7 inb_S9x512x256_S1x512x256_7_0_0,
    ← slice_eq D 8 inb_S9x512x256_S1x512x256_8_0_0]
  rfl

/-- The block of scales is the scales of the tiles side by side. -/
theorem scaleBlk_eq (D : Vec Ideal S9x512x256 .f32) : scaleBlk D = fun j => rowScale (flat D) (j 0) := by
  unfold scaleBlk k0_pay14
  dsimp only
  rw [up_vec _ _ (words_eq D)]
  funext j
  exact up_row (by decide) (flat D) (j 0)

theorem down_eq (D : Vec Ideal S9x512x256 .f32) : (k0_pay15 (words D) : FVec Ideal S512x128 .f32) = fun j => rowInv (flat D) (j 0) := by
  unfold k0_pay15
  dsimp only
  rw [down_vec _ _ (words_eq D)]
  funext j
  exact down_row (by decide) (flat D) (j 0)

/-- A tile coded with a row's reciprocal scale. -/
theorem coded (y : FVec Ideal S512x128 .f32) (T : Vec Ideal S1x512x256 .f32) :
    k0_pay18 y T = fun j : S512x256.Idx => code (y (ix2 (j 0 : Fin 512) (0 : Fin 128))) (T (ix3 (0 : Fin 1) (j 0 : Fin 512) (j 1 : Fin 256))) := by
  funext j
  unfold code
  pointwise [k0_pay18]
  try rfl

theorem codeBlk_eq (D : Vec Ideal S9x512x256 .f32) : codeBlk D = fun y => code (rowInv (flat D) (y 0)) (flat D y) := by
  have hT : ∀ n : Fin 9, codeTile D n = k0_pay18 (k0_pay15 (words D)) (tileOf D n) := by
    intro n
    fin_cases n
    · exact congrArg (k0_pay18 (k0_pay15 (words D))) (slice_eq D 0 _)
    · exact congrArg (k0_pay18 (k0_pay15 (words D))) (slice_eq D 1 _)
    · exact congrArg (k0_pay18 (k0_pay15 (words D))) (slice_eq D 2 _)
    · exact congrArg (k0_pay18 (k0_pay15 (words D))) (slice_eq D 3 _)
    · exact congrArg (k0_pay18 (k0_pay15 (words D))) (slice_eq D 4 _)
    · exact congrArg (k0_pay18 (k0_pay15 (words D))) (slice_eq D 5 _)
    · exact congrArg (k0_pay18 (k0_pay15 (words D))) (slice_eq D 6 _)
    · exact congrArg (k0_pay18 (k0_pay15 (words D))) (slice_eq D 7 _)
    · exact congrArg (k0_pay18 (k0_pay15 (words D))) (slice_eq D 8 _)
  funext y
  unfold codeBlk
  rw [hT]
  exact (congrFun (coded _ _) _).trans (congrArg (fun d => code d (flat D y)) (congrFun (down_eq D) _))

end Cert.KernelIdeal.Value
-- ==== Proof.MainValue.lean ====
/-
  The second call's results: the codes and the scales of the hidden rows, as functions of the arguments.
-/
module

public import proofs.«01_k».proof.Proof.MainLaunch
public import proofs.«01_k».proof.Proof.MainTile
public import proofs.«01_k».proof.Proof.MainQuant
public import Idealize.ShloMosaic.Lib.Pipeline.Value

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.KernelIdeal.Value
open Cert.KernelIdeal Cert.KernelIdeal.Gen Cert.Scale Cert.Hidden

variable (m : (ℓ : Loc nD τ sig) → Buf (Elt Ideal) ℓ) (ρ : Dev nD → PrngReg)

/-- The hidden rows, from the arguments in memory. -/
abbrev hid (c : Dev nD) : (⟨2, ![8192, 2304]⟩ : Shape).Idx → EReal :=
  Hidden.rows (m ((c : Thread nD τ).loc main_arg0)) (m ((c : Thread nD τ).loc main_arg1)) (m ((c : Thread nD τ).loc main_arg2))
    (m ((c : Thread nD τ).loc main_arg3)) (m ((c : Thread nD τ).loc main_arg4))

/-! ## What the call finds -/

theorem V_v0 (c : Dev nD) : V m c main_v0 = evenCols (m ((c : Thread nD τ).loc main_arg3)) := by
  refine Eq.trans (b := Host.slice S448x2304 ![0, 0] ![1, 2] (m ((c : Thread nD τ).loc main_arg3)) slicesBy_S448x4608_S448x2304_0s1_0s2) ?_ ?_
  · show StableHlo.after hostOps0 _ (Proc.devRef .tc main_v0) = _
    after_results
  · funext y
    show m ((c : Thread nD τ).loc main_arg3) _ = m ((c : Thread nD τ).loc main_arg3) _
    congr 1
    funext a
    apply Fin.ext
    match a with
    | ⟨0, _⟩ => show 0 + 1 * (y 0).val = (y 0).val; omega
    | ⟨1, _⟩ => show 0 + 2 * (y 1).val = 2 * (y 1).val; omega

theorem V_v1 (c : Dev nD) : V m c main_v1 = oddCols (m ((c : Thread nD τ).loc main_arg3)) := by
  refine Eq.trans (b := Host.slice S448x2304 ![0, 1] ![1, 2] (m ((c : Thread nD τ).loc main_arg3)) slicesBy_S448x4608_S448x2304_0s1_1s2) ?_ ?_
  · show StableHlo.after hostOps0 _ (Proc.devRef .tc main_v1) = _
    after_results
  · funext y
    show m ((c : Thread nD τ).loc main_arg3) _ = m ((c : Thread nD τ).loc main_arg3) _
    congr 1
    funext a
    apply Fin.ext
    match a with
    | ⟨0, _⟩ => show 0 + 1 * (y 0).val = (y 0).val; omega
    | ⟨1, _⟩ => show 1 + 2 * (y 1).val = 2 * (y 1).val + 1; omega

theorem V_v2 (c : Dev nD) (j : S1.Idx) : V m c main_v2 j = m ((c : Thread nD τ).loc main_arg4) nil := by
  have h : V m c main_v2 = shapeCast S1 (m ((c : Thread nD τ).loc main_arg4)) shapeCasts_S_S1 := by
    show StableHlo.after hostOps0 _ (Proc.devRef .tc main_v2) = _
    after_results
    rfl
  rw [h]
  show m ((c : Thread nD τ).loc main_arg4) _ = m ((c : Thread nD τ).loc main_arg4) _
  congr 1

/-! ## The blocks a point reads -/

theorem index_eq : ∀ t : Fin cfg0.N, win0_0.index t 0 = t.val / 9 ∧ win0_0.index t 1 = 0 ∧ win0_1.index t 0 = 0 ∧ win0_1.index t 1 = t.val % 9
    ∧ win0_2.index t 0 = 0 ∧ win0_2.index t 1 = t.val % 9 ∧ win0_3.index t 0 = 0 ∧ win0_3.index t 1 = t.val % 9
    ∧ win0_4.index t 0 = t.val / 9 ∧ win0_4.index t 1 = 0 ∧ win0_5.index t 0 = 0
    ∧ win0_6.index t 0 = t.val / 9 ∧ win0_6.index t 1 = 0 ∧ win0_7.index t 0 = t.val / 9 ∧ win0_7.index t 1 = 0 := by decide +kernel

theorem row_lt (t : Fin cfg0.N) (r : Fin 512) : t.val / 9 * 512 + r.val < 8192 := by
  have h := t.isLt
  have hN : cfg0.N = 144 := N_0
  have := r.isLt
  omega
theorem col_lt (t : Fin cfg0.N) (l : Fin 256) : t.val % 9 * 256 + l.val < 2304 := by
  have := l.isLt
  omega

theorem iblk0 (c : Dev nD) (t : Fin cfg0.N) (r : Fin 512) (k : Fin 7168) : (iblk m c 0 t : Vec Ideal S512x7168 .fp8e4m3) (ix2 r k)
    = m ((c : Thread nD τ).loc main_arg0) (ix2 (⟨t.val / 9 * 512 + r.val, row_lt t r⟩ : Fin 8192) k) := by
  obtain ⟨h0, h1, -⟩ := index_eq t
  unfold iblk
  rw [View.read_apply]
  show V m c main_arg0 _ = _
  rw [V_main_arg0]
  congr 1
  funext a
  apply Fin.ext
  match a with
  | ⟨0, _⟩ => show win0_0.index t 0 * 512 + 1 * r.val = t.val / 9 * 512 + r.val; rw [h0]; omega
  | ⟨1, _⟩ => show win0_0.index t 1 * 7168 + 1 * k.val = k.val; rw [h1]; omega

theorem iblk1 (c : Dev nD) (t : Fin cfg0.N) (k : Fin 7168) (l : Fin 256) : (iblk m c 1 t : Vec Ideal S7168x256 .i8) (ix2 k l)
    = m ((c : Thread nD τ).loc main_arg2) (ix2 k (⟨t.val % 9 * 256 + l.val, col_lt t l⟩ : Fin 2304)) := by
  obtain ⟨-, -, h0, h1, -⟩ := index_eq t
  unfold iblk
  rw [View.read_apply]
  show V m c main_arg2 _ = _
  rw [V_main_arg2]
  congr 1
  funext a
  apply Fin.ext
  match a with
  | ⟨0, _⟩ => show win0_1.index t 0 * 7168 + 1 * k.val = k.val; rw [h0]; omega
  | ⟨1, _⟩ => show win0_1.index t 1 * 256 + 1 * l.val = t.val % 9 * 256 + l.val; rw [h1]; omega

theorem iblk2 (c : Dev nD) (t : Fin cfg0.N) (k : Fin 448) (l : Fin 256) : (iblk m c 2 t : Vec Ideal S448x256 .fp8e4m3) (ix2 k l)
    = evenCols (m ((c : Thread nD τ).loc main_arg3)) (ix2 k (⟨t.val % 9 * 256 + l.val, col_lt t l⟩ : Fin 2304)) := by
  obtain ⟨-, -, -, -, h0, h1, -⟩ := index_eq t
  unfold iblk
  rw [View.read_apply]
  show V m c main_v0 _ = _
  rw [V_v0]
  congr 1
  funext a
  apply Fin.ext
  match a with
  | ⟨0, _⟩ => show win0_2.index t 0 * 448 + 1 * k.val = k.val; rw [h0]; omega
  | ⟨1, _⟩ => show win0_2.index t 1 * 256 + 1 * l.val = t.val % 9 * 256 + l.val; rw [h1]; omega

theorem iblk3 (c : Dev nD) (t : Fin cfg0.N) (k : Fin 448) (l : Fin 256) : (iblk m c 3 t : Vec Ideal S448x256 .fp8e4m3) (ix2 k l)
    = oddCols (m ((c : Thread nD τ).loc main_arg3)) (ix2 k (⟨t.val % 9 * 256 + l.val, col_lt t l⟩ : Fin 2304)) := by
  obtain ⟨-, -, -, -, -, -, h0, h1, -⟩ := index_eq t
  unfold iblk
  rw [View.read_apply]
  show V m c main_v1 _ = _
  rw [V_v1]
  congr 1
  funext a
  apply Fin.ext
  match a with
  | ⟨0, _⟩ => show win0_3.index t 0 * 448 + 1 * k.val = k.val; rw [h0]; omega
  | ⟨1, _⟩ => show win0_3.index t 1 * 256 + 1 * l.val = t.val % 9 * 256 + l.val; rw [h1]; omega

theorem iblk4 (c : Dev nD) (t : Fin cfg0.N) (r : Fin 512) (k : Fin 128) : (iblk m c 4 t : Vec Ideal S512x128 .f32) (ix2 r k)
    = m ((c : Thread nD τ).loc main_arg1) (ix2 (⟨t.val / 9 * 512 + r.val, row_lt t r⟩ : Fin 8192) k) := by
  obtain ⟨-, -, -, -, -, -, -, -, h0, h1, -⟩ := index_eq t
  unfold iblk
  rw [View.read_apply]
  show V m c main_arg1 _ = _
  rw [V_main_arg1]
  congr 1
  funext a
  apply Fin.ext
  match a with
  | ⟨0, _⟩ => show win0_4.index t 0 * 512 + 1 * r.val = t.val / 9 * 512 + r.val; rw [h0]; omega
  | ⟨1, _⟩ => show win0_4.index t 1 * 128 + 1 * k.val = k.val; rw [h1]; omega

theorem iblk5 (c : Dev nD) (t : Fin cfg0.N) (j : S1.Idx) : (iblk m c 5 t : Vec Ideal S1 .f32) j = m ((c : Thread nD τ).loc main_arg4) nil := by
  unfold iblk
  rw [View.read_apply]
  exact V_v2 m c _

/-- A hidden tile is the hidden rows' at its rows and columns. -/
theorem tile_apply (c : Dev nD) (t : Fin cfg0.N) (r : Fin 512) (l : Fin 256) : tile m c t (ix3 (0 : Fin 1) r l)
    = hid m c (ix2 (⟨t.val / 9 * 512 + r.val, row_lt t r⟩ : Fin 8192) (⟨t.val % 9 * 256 + l.val, col_lt t l⟩ : Fin 2304)) := by
  unfold tile
  refine (hTile_apply _ _ _ _ _ _ r l).trans ?_
  unfold hid Hidden.rows
  exact hiddenAt_congr _ _ _ _ _ _ _ _ _ _ _ _ _ _ _ _ (fun k => iblk0 m c t r k) (iblk4 m c t r 0) (iblk5 m c t _) (fun k => iblk1 m c t k l)
    (fun k => iblk2 m c t k l) (fun k => iblk3 m c t k l)

/-- The nine tiles side by side are the row block of the hidden rows. -/
theorem flat_apply (c : Dev nD) (t : Fin cfg0.N) (r : Fin 512) (k : Fin 2304) :
    flat (full m c t) (ix2 r k) = hid m c (ix2 (⟨t.val / 9 * 512 + r.val, row_lt t r⟩ : Fin 8192) k) := by
  have hk := k.isLt
  have ht := t.isLt
  have hN : cfg0.N = 144 := N_0
  refine (tile_apply m c _ r (⟨k.val % 256, Nat.mod_lt _ (by decide)⟩ : Fin 256)).trans (congrArg (hid m c) ?_)
  funext a
  apply Fin.ext
  match a with
  | ⟨0, _⟩ => show (9 * (t.val / 9) + k.val / 256) / 9 * 512 + r.val = t.val / 9 * 512 + r.val; omega
  | ⟨1, _⟩ => show (9 * (t.val / 9) + k.val / 256) % 9 * 256 + k.val % 256 = k.val; omega

theorem row_eq (c : Dev nD) (t : Fin cfg0.N) (r : Fin 512) :
    rowMax (flat (full m c t)) r = rowMax (hid m c) (⟨t.val / 9 * 512 + r.val, row_lt t r⟩ : Fin 8192) :=
  rowMax_congr _ _ _ _ fun k => flat_apply m c t r k

/-! ## The results -/

theorem final6 (c : Dev nD) : (dats m 0 c).arrAt 6 cfg0.N = Hidden.codes (hid m c) := by
  have hN : cfg0.N = 144 := N_0
  refine (dats m 0 c).arrAt_eq_of_cover 6 _ (fun t _ => ?_) fun i => ?_
  · show (cfg0.win 6).cut (grid0.coords t) ((dats m 0 c).after 6 t) = _
    rw [after0_6, codeBlk_eq]
    obtain ⟨-, -, -, -, -, -, -, -, -, -, -, h0, h1, -⟩ := index_eq t
    funext j
    obtain ⟨r, k, rfl⟩ : ∃ (r : Fin 512) (k : Fin 2304), j = ix2 r k := ⟨j 0, j 1, eq_ix2 j⟩
    rw [View.read_apply]
    have e : ((cfg0.win 6).blk t).view.emb (ix2 r k) = ix2 (⟨t.val / 9 * 512 + r.val, row_lt t r⟩ : Fin 8192) k := by
      funext a
      apply Fin.ext
      match a with
      | ⟨0, _⟩ => show win0_6.index t 0 * 512 + 1 * r.val = t.val / 9 * 512 + r.val; rw [h0]; omega
      | ⟨1, _⟩ => show win0_6.index t 1 * 2304 + 1 * k.val = k.val; rw [h1]; omega
    rw [e]
    show code (rowInv (flat (full m c t)) r) (flat (full m c t) (ix2 r k))
      = code (rowInv (hid m c) (⟨t.val / 9 * 512 + r.val, row_lt t r⟩ : Fin 8192)) (hid m c (ix2 (⟨t.val / 9 * 512 + r.val, row_lt t r⟩ : Fin 8192) k))
    rw [flat_apply]
    unfold rowInv rowExp
    rw [row_eq]
  · have hi0 : (i 0 : Nat) < 8192 := (i 0).isLt
    have hi1 : (i 1 : Nat) < 2304 := (i 1).isLt
    have hp : (i 0 : Nat) / 512 * 9 + 8 < cfg0.N := by rw [hN]; omega
    refine ⟨⟨(i 0 : Nat) / 512 * 9 + 8, hp⟩, (flush0_6 _).2 (by show ((i 0 : Nat) / 512 * 9 + 8) % 9 = 8; omega), ?_⟩
    show i ∈ ((View.whole main_v3_0).slice (win0_6.rect (⟨(i 0 : Nat) / 512 * 9 + 8, hp⟩ : Fin cfg0.N))).set
    rw [View.set_slice_whole, Rect.mem_set_unit]
    obtain ⟨-, -, -, -, -, -, -, -, -, -, -, h0, h1, -⟩ := index_eq ⟨(i 0 : Nat) / 512 * 9 + 8, hp⟩
    dsimp only at h0 h1
    intro a
    match a with
    | ⟨0, _⟩ => show win0_6.index (⟨(i 0 : Nat) / 512 * 9 + 8, hp⟩ : Fin cfg0.N) 0 * 512 ≤ (i 0 : Nat) ∧ (i 0 : Nat) < win0_6.index (⟨(i 0 : Nat) / 512 * 9 + 8, hp⟩ : Fin cfg0.N) 0 * 512 + 512
                rw [h0]; omega
    | ⟨1, _⟩ => show win0_6.index (⟨(i 0 : Nat) / 512 * 9 + 8, hp⟩ : Fin cfg0.N) 1 * 2304 ≤ (i 1 : Nat) ∧ (i 1 : Nat) < win0_6.index (⟨(i 0 : Nat) / 512 * 9 + 8, hp⟩ : Fin cfg0.N) 1 * 2304 + 2304
                rw [h1]; omega

theorem final7 (c : Dev nD) : (dats m 0 c).arrAt 7 cfg0.N = Hidden.scales (hid m c) := by
  have hN : cfg0.N = 144 := N_0
  refine (dats m 0 c).arrAt_eq_of_cover 7 _ (fun t _ => ?_) fun i => ?_
  · show (cfg0.win 7).cut (grid0.coords t) ((dats m 0 c).after 7 t) = _
    rw [after0_7, scaleBlk_eq]
    obtain ⟨-, -, -, -, -, -, -, -, -, -, -, -, -, h0, h1⟩ := index_eq t
    funext j
    obtain ⟨r, k, rfl⟩ : ∃ (r : Fin 512) (k : Fin 128), j = ix2 r k := ⟨j 0, j 1, eq_ix2 j⟩
    rw [View.read_apply]
    have e : ((cfg0.win 7).blk t).view.emb (ix2 r k) = ix2 (⟨t.val / 9 * 512 + r.val, row_lt t r⟩ : Fin 8192) k := by
      funext a
      apply Fin.ext
      match a with
      | ⟨0, _⟩ => show win0_7.index t 0 * 512 + 1 * r.val = t.val / 9 * 512 + r.val; rw [h0]; omega
      | ⟨1, _⟩ => show win0_7.index t 1 * 128 + 1 * k.val = k.val; rw [h1]; omega
    rw [e]
    show rowScale (flat (full m c t)) r = rowScale (hid m c) (⟨t.val / 9 * 512 + r.val, row_lt t r⟩ : Fin 8192)
    unfold rowScale rowExp
    rw [row_eq]
  · have hi0 : (i 0 : Nat) < 8192 := (i 0).isLt
    have hi1 : (i 1 : Nat) < 128 := (i 1).isLt
    have hp : (i 0 : Nat) / 512 * 9 + 8 < cfg0.N := by rw [hN]; omega
    refine ⟨⟨(i 0 : Nat) / 512 * 9 + 8, hp⟩, (flush0_7 _).2 (by show ((i 0 : Nat) / 512 * 9 + 8) % 9 = 8; omega), ?_⟩
    show i ∈ ((View.whole main_v3_1).slice (win0_7.rect (⟨(i 0 : Nat) / 512 * 9 + 8, hp⟩ : Fin cfg0.N))).set
    rw [View.set_slice_whole, Rect.mem_set_unit]
    obtain ⟨-, -, -, -, -, -, -, -, -, -, -, -, -, h0, h1⟩ := index_eq ⟨(i 0 : Nat) / 512 * 9 + 8, hp⟩
    dsimp only at h0 h1
    intro a
    match a with
    | ⟨0, _⟩ => show win0_7.index (⟨(i 0 : Nat) / 512 * 9 + 8, hp⟩ : Fin cfg0.N) 0 * 512 ≤ (i 0 : Nat) ∧ (i 0 : Nat) < win0_7.index (⟨(i 0 : Nat) / 512 * 9 + 8, hp⟩ : Fin cfg0.N) 0 * 512 + 512
                rw [h0]; omega
    | ⟨1, _⟩ => show win0_7.index (⟨(i 0 : Nat) / 512 * 9 + 8, hp⟩ : Fin cfg0.N) 1 * 128 ≤ (i 1 : Nat) ∧ (i 1 : Nat) < win0_7.index (⟨(i 0 : Nat) / 512 * 9 + 8, hp⟩ : Fin cfg0.N) 1 * 128 + 128
                rw [h1]; omega

/-- The call's run: its two results are the codes and the scales of the hidden rows, and its arguments stay as they were. -/
theorem run : θ_run defs (onTc (τ := τ) (main (F := Ideal))) ⟨m, fun _ => 0, ρ⟩ fun r => ∀ c : Dev nD,
      r.2.mem ((c : Thread nD τ).loc main_v3_0) = Hidden.codes (hid m c)
      ∧ r.2.mem ((c : Thread nD τ).loc main_v3_1) = Hidden.scales (hid m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 6).trans (final6 m c), ((h.1 c).1 7).trans (final7 m c), h.2 c⟩)
    (θ_run_and (run_main m ρ) (unchanged m ρ))

end Cert.KernelIdeal.Value
-- ==== Proof.RefValue.lean ====
/-
  The reference of the second call: its results are the codes and the scales of the hidden rows.
-/
module

public import proofs.«01_k».proof.Proof.Hidden
public import proofs.«01_k».proof.Proof.Scale
public import proofs.«01_k».proof.Proof.Gen.ReferenceIdeal.Frame
public import Idealize.ShloMosaic.Lib.Pipeline.Value
public import Idealize.ShloMosaic.Lib.VecWindow
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Idealize.ShloMosaic.Pointwise

namespace Cert.ReferenceIdeal.Value
open Cert.ReferenceIdeal Cert.ReferenceIdeal.Gen Cert.Decode Cert.Hidden Cert.Scale

/-- Numbers times the scales of their blocks of sixteen rows. -/
theorem group_apply (v : FVec Ideal S7168x2304 .bf16) (s : FVec Ideal S448x2304 .bf16) (j : S7168x2304.Idx) :
    shapeCast S7168x2304 (mulf (shapeCast S448x16x2304 v shapeCasts_S7168x2304_S448x16x2304)
        (broadcastTo S448x16x2304 (shapeCast S448x1x2304 s shapeCasts_S448x2304_S448x1x2304) broadcasts_S448x1x2304_S448x16x2304))
      shapeCasts_S448x16x2304_S7168x2304 j
      = v j * s (ix2 (⟨(j 0).val / 16, by have h : (j 0).val < 7168 := (j 0).isLt; omega⟩ : Fin 448) (j 1 : Fin 2304)) := by
  pointwise

theorem same_scales {e : Type} (v : S448x2304.Idx → e) : shapeCast S448x2304 v shapeCasts_S448x2304_S448x2304 = v := by
  funext j
  pointwise

/-- The gate weights. -/
abbrev loW (x2 : Vec Ideal S7168x2304 .i8) (x3 : Vec Ideal S448x2304 .fp8e4m3) : FVec Ideal S7168x2304 .bf16 :=
  k0_pay15 (k0_pay7 x3) (k0_pay9 x2) (k0_pay10 x2) (k0_pay11 x2) (k0_pay12 x2) (k0_pay13 x2) (k0_pay14 x2)

theorem loW_apply (x2 : Vec Ideal S7168x2304 .i8) (x3 : Vec Ideal S448x2304 .fp8e4m3) (k : Fin 7168) (c : Fin 2304) :
    loW x2 x3 (ix2 k c) = weight loNumber x2 x3 k c := by
  unfold loW k0_pay15 k0_pay7
  rw [same_scales]
  exact group_apply _ _ _

/-- The hidden rows, as the reference computes them. -/
abbrev hidRef (x0 : Vec Ideal S8192x7168 .fp8e4m3) (t : Vec Ideal S8192x1 .f32) (x2 : Vec Ideal S7168x2304 .i8) (x3 x4 : Vec Ideal S448x2304 .fp8e4m3)
    (g : Elt Ideal .f32) : FVec Ideal S8192x2304 .f32 :=
  k0_pay24 (k0_pay4 x0) (loW x2 x3) (k0_pay17 x4) (k0_pay18 (k0_pay5 x2)) (k0_pay19 (k0_pay5 x2)) (k0_pay20 (k0_pay5 x2)) (k0_pay21 (k0_pay5 x2))
    (k0_pay22 (k0_pay5 x2)) (k0_pay23 (k0_pay5 x2)) (FloatOps.ofBits .bf16 0x3F00#16) t g

/-- The other half's weights. -/
abbrev hiW (x2 : Vec Ideal S7168x2304 .i8) (x4 : Vec Ideal S448x2304 .fp8e4m3) : FVec Ideal S7168x2304 .bf16 :=
  k0_pay15 x4 (k0_pay19 (k0_pay5 x2)) (k0_pay20 (k0_pay5 x2)) (k0_pay21 (k0_pay5 x2)) (k0_pay22 (k0_pay5 x2)) (k0_pay23 (k0_pay5 x2))
    (select (k0_pay18 (k0_pay5 x2)) (broadcast S7168x2304 (FloatOps.ofBits .bf16 0x3F00#16)) (broadcast S7168x2304 (FloatOps.ofBits .bf16 0x0000#16)))

theorem hiW_apply (x2 : Vec Ideal S7168x2304 .i8) (x4 : Vec Ideal S448x2304 .fp8e4m3) (k : Fin 7168) (c : Fin 2304) :
    hiW x2 x4 (ix2 k c) = weight hiNumber x2 x4 k c := by
  unfold hiW k0_pay15
  exact group_apply _ _ _

theorem product_apply (x : FVec Ideal S8192x7168 .bf16) (t : FVec Ideal S8192x1 .f32) (g : Ideal .f32) (a b : FVec Ideal S7168x2304 .bf16) (j : S8192x2304.Idx) :
    mulf (mulf (mulf (mulf (matmul dot_S8192x7168_S7168x2304_S8192x2304_1_0_0_1_n_n none x a (constant S8192x2304 .f32 0x00000000#32))
          (broadcastTo S8192x2304 t broadcasts_S8192x1_S8192x2304)) (broadcast S8192x2304 g))
        (logistic (mulf (mulf (matmul dot_S8192x7168_S7168x2304_S8192x2304_1_0_0_1_n_n none x a (constant S8192x2304 .f32 0x00000000#32))
          (broadcastTo S8192x2304 t broadcasts_S8192x1_S8192x2304)) (broadcast S8192x2304 g))))
      (mulf (mulf (matmul dot_S8192x7168_S7168x2304_S8192x2304_1_0_0_1_n_n none x b (constant S8192x2304 .f32 0x00000000#32))
          (broadcastTo S8192x2304 t broadcasts_S8192x1_S8192x2304)) (broadcast S8192x2304 g)) j
      = gated (scaled (n := 8192) (N := 2304) x (fun k c => a (ix2 k c)) (t (ix2 (j 0 : Fin 8192) (0 : Fin 1))) g (j 0) (j 1))
          (scaled (n := 8192) (N := 2304) x (fun k c => b (ix2 k c)) (t (ix2 (j 0 : Fin 8192) (0 : Fin 1))) g (j 0) (j 1)) := by
  unfold gated scaled
  pointwise

theorem hidRef_apply (x0 : Vec Ideal S8192x7168 .fp8e4m3) (t : Vec Ideal S8192x1 .f32) (x2 : Vec Ideal S7168x2304 .i8) (x3 x4 : Vec Ideal S448x2304 .fp8e4m3)
    (g : Elt Ideal .f32) (j : S8192x2304.Idx) : hidRef x0 t x2 x3 x4 g j
      = gated (scaled (n := 8192) (N := 2304) x0 (weight loNumber x2 x3) (t (ix2 (j 0 : Fin 8192) (0 : Fin 1))) g (j 0) (j 1))
          (scaled (n := 8192) (N := 2304) x0 (weight hiNumber x2 x4) (t (ix2 (j 0 : Fin 8192) (0 : Fin 1))) g (j 0) (j 1)) := by
  rw [show weight loNumber x2 x3 = fun k c => loW x2 x3 (ix2 k c) from funext fun k => funext fun c => (loW_apply x2 x3 k c).symm,
    show weight hiNumber x2 x4 = fun k c => hiW x2 x4 (ix2 k c) from funext fun k => funext fun c => (hiW_apply x2 x4 k c).symm]
  refine Eq.trans ?_ (product_apply x0 t g (loW x2 x3) (hiW x2 x4) j)
  have e : k0_pay17 x4 = x4 := same_scales x4
  unfold hidRef
  rw [e]
  rfl

theorem amax_apply (H : FVec Ideal S8192x2304 .f32) (j : S8192x1.Idx) :
    shapeCast S8192x1 (multiReduction .maximumf [1] S8192 (absf H) 0xFF800000#32 reduces_S8192x2304_S8192 (.inl rfl) rfl) shapeCasts_S8192_S8192x1 j
      = rowMax (n := 8192) (K := 2304) H (j 0) := by
  unfold rowMax
  pointwise
  rfl

/-- Whether a row's exponent is zero, -/
abbrev lowRef (x0 : Vec Ideal S8192x7168 .fp8e4m3) (t : Vec Ideal S8192x1 .f32) (x2 : Vec Ideal S7168x2304 .i8) (x3 x4 : Vec Ideal S448x2304 .fp8e4m3)
    (g : Elt Ideal .f32) : IVec S8192x1 1 :=
  k0_pay26 (k0_pay4 x0) (loW x2 x3) (k0_pay17 x4) (k0_pay18 (k0_pay5 x2)) (k0_pay19 (k0_pay5 x2)) (k0_pay20 (k0_pay5 x2)) (k0_pay21 (k0_pay5 x2))
    (k0_pay22 (k0_pay5 x2)) (k0_pay23 (k0_pay5 x2)) (FloatOps.ofBits .bf16 0x3F00#16) t g
/-- and the exponent otherwise. -/
abbrev logRef (x0 : Vec Ideal S8192x7168 .fp8e4m3) (t : Vec Ideal S8192x1 .f32) (x2 : Vec Ideal S7168x2304 .i8) (x3 x4 : Vec Ideal S448x2304 .fp8e4m3)
    (g : Elt Ideal .f32) : FVec Ideal S8192x1 .f32 :=
  k0_pay27 (k0_pay4 x0) (loW x2 x3) (k0_pay17 x4) (k0_pay18 (k0_pay5 x2)) (k0_pay19 (k0_pay5 x2)) (k0_pay20 (k0_pay5 x2)) (k0_pay21 (k0_pay5 x2))
    (k0_pay22 (k0_pay5 x2)) (k0_pay23 (k0_pay5 x2)) (FloatOps.ofBits .bf16 0x3F00#16) t g

theorem exp_eq (x0 : Vec Ideal S8192x7168 .fp8e4m3) (t : Vec Ideal S8192x1 .f32) (x2 : Vec Ideal S7168x2304 .i8) (x3 x4 : Vec Ideal S448x2304 .fp8e4m3)
    (g : Elt Ideal .f32) :
    k0_pay1 (lowRef x0 t x2 x3 x4 g) (logRef x0 t x2 x3 x4 g) k0_pay28 = fun j => rowExp (n := 8192) (K := 2304) (hidRef x0 t x2 x3 x4 g) (j 0) := by
  unfold lowRef logRef k0_pay1 k0_pay26 k0_pay27 k0_pay28 k0_pay25 hidRef
  generalize k0_pay24 (F := Ideal) (k0_pay4 x0) (loW x2 x3) (k0_pay17 x4) (k0_pay18 (k0_pay5 x2)) (k0_pay19 (k0_pay5 x2)) (k0_pay20 (k0_pay5 x2)) (k0_pay21 (k0_pay5 x2))
    (k0_pay22 (k0_pay5 x2)) (k0_pay23 (k0_pay5 x2)) (FloatOps.ofBits .bf16 0x3F00#16) t g = H
  exact (refExp_vec _).trans (funext fun j => congrArg refExp ((congrFun (cut_vec _) j).trans (congrArg cut (amax_apply H j))))

theorem exp2_fun {s : Shape} (a : FVec Ideal s .f32) : exp2 a = fun j => Ideal.exp2 (a j) := rfl

theorem codes_eq (x0 : Vec Ideal S8192x7168 .fp8e4m3) (t : Vec Ideal S8192x1 .f32) (x2 : Vec Ideal S7168x2304 .i8) (x3 x4 : Vec Ideal S448x2304 .fp8e4m3)
    (g : Elt Ideal .f32) :
    k0_pay2 (hidRef x0 t x2 x3 x4 g) (lowRef x0 t x2 x3 x4 g) (logRef x0 t x2 x3 x4 g) k0_pay28 = codes (hidRef x0 t x2 x3 x4 g) := by
  funext j
  unfold k0_pay2
  rw [exp_eq, exp2_fun]
  unfold codes code rowInv
  generalize hidRef x0 t x2 x3 x4 g = H
  generalize rowExp (n := 8192) (K := 2304) H = R
  pointwise
  try rfl

theorem scales_eq (x0 : Vec Ideal S8192x7168 .fp8e4m3) (t : Vec Ideal S8192x1 .f32) (x2 : Vec Ideal S7168x2304 .i8) (x3 x4 : Vec Ideal S448x2304 .fp8e4m3)
    (g : Elt Ideal .f32) :
    k0_pay3 (lowRef x0 t x2 x3 x4 g) (logRef x0 t x2 x3 x4 g) k0_pay28 = scales (hidRef x0 t x2 x3 x4 g) := by
  funext j
  unfold k0_pay3
  rw [exp_eq, exp2_fun]
  unfold scales rowScale
  generalize hidRef x0 t x2 x3 x4 g = H
  generalize rowExp (n := 8192) (K := 2304) H = R
  pointwise
  try rfl

/-! ## What the body leaves in the two results -/

theorem hz : (![0, 0] : Fin 2 → Nat) = fun _ => 0 := funext fun a => by fin_cases a <;> rfl

theorem hz1 : (![0] : Fin 1 → Nat) = fun _ => 0 := funext fun a => by fin_cases a; rfl

/-- A load of a whole buffer reads it. -/
theorem read_whole {κ} {sp} {S : Shape} {e : EltTy} (arg : Memref sig κ sp S e) (harg : arg.IsWhole) (x : Vec Ideal S e) {off : Fin S.rank → Nat} (h : off = fun _ => 0)
    (inb : ∀ a, off a + S.size a ≤ S.size a) :
    arg.view.readAt (Elt Ideal) (Rect.unit off S.size inb).toLoadRect (harg.unread x) = x := by
  rw [View.readAt_eq_ld, harg.read_unread]
  exact View.ld_unit_zero h inb x

/-- The tokens' scales: the first column. -/
abbrev column (x1 : Vec Ideal S8192x128 .f32) : Vec Ideal S8192x1 .f32 :=
  View.ld x1 (Rect.unit (s := S8192x128) ![0, 0] S8192x1.size inb_S8192x128_S8192x1_0_0)

/-- The hidden rows from the arrays the body finds. -/
abbrev hidOf (x0 : Vec Ideal S8192x7168 .fp8e4m3) (x1 : Vec Ideal S8192x128 .f32) (x2 : Vec Ideal S7168x2304 .i8) (x3 x4 : Vec Ideal S448x2304 .fp8e4m3)
    (x5 : Vec Ideal S1 .f32) : FVec Ideal S8192x2304 .f32 :=
  hidRef x0 (column x1) x2 x3 x4 (x5 (Shape.Idx.first (numel1_S1.symm ▸ Nat.one_pos)))

set_option maxHeartbeats 1000000 in
theorem out6_eq (c : Dev nD) (arg0 : Memref sig .tc .vmem S8192x7168 .fp8e4m3) (harg0 : arg0.IsWhole) (arg1 : Memref sig .tc .vmem S8192x128 .f32) (harg1 : arg1.IsWhole)
    (arg2 : Memref sig .tc .vmem S7168x2304 .i8) (harg2 : arg2.IsWhole) (arg3 : Memref sig .tc .vmem S448x2304 .fp8e4m3) (harg3 : arg3.IsWhole)
    (arg4 : Memref sig .tc .vmem S448x2304 .fp8e4m3) (harg4 : arg4.IsWhole) (arg5 : Memref sig .tc .smem S1 .f32) (harg5 : arg5.IsWhole)
    (arg6 : Memref sig .tc .vmem S8192x2304 .fp8e4m3) (harg6 : arg6.IsWhole) (arg7 : Memref sig .tc .vmem S8192x128 .f32) (harg7 : arg7.IsWhole)
    (x0 : Vec Ideal S8192x7168 .fp8e4m3) (x1 : Vec Ideal S8192x128 .f32) (x2 : Vec Ideal S7168x2304 .i8) (x3 x4 : Vec Ideal S448x2304 .fp8e4m3)
    (x5 : Vec Ideal S1 .f32) :
    out0_A_6 c arg0 harg0 arg1 harg1 arg2 harg2 arg3 harg3 arg4 harg4 arg5 harg5 arg6 harg6 arg7 harg7 x0 x1 x2 x3 x4 x5 = Hidden.codes (hidOf x0 x1 x2 x3 x4 x5) := by
  rw [← codes_eq]
  unfold out0_A_6 kernelRun0_A
  refine (View.read_writes_full VO0_6 VO0_6.junk inb_S8192x2304_S8192x2304_0_0 _ []).trans ?_
  unfold kernelRun0_A.sl.r_20 kernelRun0_A.sl.r_19 kernelRun0_A.sl.r_18 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  rw [read_whole arg0 harg0 x0 hz]
  rw [read_whole arg2 harg2 x2 hz, read_whole arg3 harg3 x3 hz, read_whole arg4 harg4 x4 hz, read_whole arg5 harg5 x5 hz1,
    View.readAt_eq_ld, harg1.read_unread]
  rfl

variable (m : (ℓ : Loc nD τ sig) → Buf (Elt Ideal) ℓ) (ρ : Dev nD → PrngReg)

set_option maxHeartbeats 1000000 in
theorem out7_eq (c : Dev nD) (arg0 : Memref sig .tc .vmem S8192x7168 .fp8e4m3) (harg0 : arg0.IsWhole) (arg1 : Memref sig .tc .vmem S8192x128 .f32) (harg1 : arg1.IsWhole)
    (arg2 : Memref sig .tc .vmem S7168x2304 .i8) (harg2 : arg2.IsWhole) (arg3 : Memref sig .tc .vmem S448x2304 .fp8e4m3) (harg3 : arg3.IsWhole)
    (arg4 : Memref sig .tc .vmem S448x2304 .fp8e4m3) (harg4 : arg4.IsWhole) (arg5 : Memref sig .tc .smem S1 .f32) (harg5 : arg5.IsWhole)
    (arg6 : Memref sig .tc .vmem S8192x2304 .fp8e4m3) (harg6 : arg6.IsWhole) (arg7 : Memref sig .tc .vmem S8192x128 .f32) (harg7 : arg7.IsWhole)
    (x0 : Vec Ideal S8192x7168 .fp8e4m3) (x1 : Vec Ideal S8192x128 .f32) (x2 : Vec Ideal S7168x2304 .i8) (x3 x4 : Vec Ideal S448x2304 .fp8e4m3)
    (x5 : Vec Ideal S1 .f32) :
    out0_A_7 c arg0 harg0 arg1 harg1 arg2 harg2 arg3 harg3 arg4 harg4 arg5 harg5 arg6 harg6 arg7 harg7 x0 x1 x2 x3 x4 x5 = Hidden.scales (hidOf x0 x1 x2 x3 x4 x5) := by
  rw [← scales_eq]
  unfold out0_A_7 kernelRun0_A
  refine (View.read_writes_full VO0_7 VO0_7.junk inb_S8192x128_S8192x128_0_0 _ []).trans ?_
  unfold kernelRun0_A.sl.r_20 kernelRun0_A.sl.r_19 kernelRun0_A.sl.r_17 kernelRun0_A.sl.r_16 kernelRun0_A.sl.r_15 kernelRun0_A.sl.r_14 kernelRun0_A.sl.r_13 kernelRun0_A.sl.r_12 kernelRun0_A.sl.r_11 kernelRun0_A.sl.r_10 kernelRun0_A.sl.r_9 kernelRun0_A.sl.r_8 kernelRun0_A.sl.r_7 kernelRun0_A.sl.r_6 kernelRun0_A.sl.r_5 kernelRun0_A.sl.r_4 kernelRun0_A.sl.r_3 kernelRun0_A.sl.r_2 kernelRun0_A.sl.r_1 kernelRun0_A.sl.r
  rw [read_whole arg0 harg0 x0 hz]
  rw [read_whole arg2 harg2 x2 hz, read_whole arg3 harg3 x3 hz, read_whole arg4 harg4 x4 hz, read_whole arg5 harg5 x5 hz1,
    View.readAt_eq_ld, harg1.read_unread]
  rfl

variable (m : (ℓ : Loc nD τ sig) → Buf (Elt Ideal) ℓ) (ρ : Dev nD → PrngReg)

variable (m : (ℓ : Loc nD τ sig) → Buf (Elt Ideal) ℓ) (ρ : Dev nD → PrngReg)

/-! ## What the host leaves before the body -/

theorem V_v0 (c : Dev nD) : V m c main_v0 = evenCols (m ((c : Thread nD τ).loc main_arg3)) := by
  refine Eq.trans (b := Host.slice S448x2304 ![0, 0] ![1, 2] (m ((c : Thread nD τ).loc main_arg3)) slicesBy_S448x4608_S448x2304_0s1_0s2) ?_ ?_
  · show StableHlo.after hostOps0 _ (Proc.devRef .tc main_v0) = _
    after_results
  · funext y
    show m ((c : Thread nD τ).loc main_arg3) _ = m ((c : Thread nD τ).loc main_arg3) _
    congr 1
    funext a
    apply Fin.ext
    match a with
    | ⟨0, _⟩ => show 0 + 1 * (y 0).val = (y 0).val; omega
    | ⟨1, _⟩ => show 0 + 2 * (y 1).val = 2 * (y 1).val; omega

theorem V_v1 (c : Dev nD) : V m c main_v1 = oddCols (m ((c : Thread nD τ).loc main_arg3)) := by
  refine Eq.trans (b := Host.slice S448x2304 ![0, 1] ![1, 2] (m ((c : Thread nD τ).loc main_arg3)) slicesBy_S448x4608_S448x2304_0s1_1s2) ?_ ?_
  · show StableHlo.after hostOps0 _ (Proc.devRef .tc main_v1) = _
    after_results
  · funext y
    show m ((c : Thread nD τ).loc main_arg3) _ = m ((c : Thread nD τ).loc main_arg3) _
    congr 1
    funext a
    apply Fin.ext
    match a with
    | ⟨0, _⟩ => show 0 + 1 * (y 0).val = (y 0).val; omega
    | ⟨1, _⟩ => show 1 + 2 * (y 1).val = 2 * (y 1).val + 1; omega

theorem V_v2 (c : Dev nD) (j : S1.Idx) : V m c main_v2 j = m ((c : Thread nD τ).loc main_arg4) nil := by
  have h : V m c main_v2 = shapeCast S1 (m ((c : Thread nD τ).loc main_arg4)) shapeCasts_S_S1 := by
    show StableHlo.after hostOps0 _ (Proc.devRef .tc main_v2) = _
    after_results
    rfl
  rw [h]
  show m ((c : Thread nD τ).loc main_arg4) _ = m ((c : Thread nD τ).loc main_arg4) _
  congr 1

/-! ## The results -/

/-- The reference has one grid point. -/
abbrev zeroth : Fin cfg0.N := ⟨0, by rw [show cfg0.N = 1 from N_0]; decide⟩

theorem index0 (w : Fin cfg0.W) (t : Fin cfg0.N) : (fun a => (cfg0.win w).index t a * (cfg0.win w).size a) = fun _ => 0 := by
  funext a; rcases fin_N0 t with rfl; revert a; revert w; decide +kernel

theorem iblk0 (c : Dev nD) (t : Fin cfg0.N) : (iblk m c 0 t : Vec Ideal S8192x7168 .fp8e4m3) = V m c main_arg0 := by
  have h := index0 0 t
  exact Memref.read_access_unit_zero (Elt Ideal) main_arg0 h (fun a => by rw [congrFun h a]; simp) (V m c main_arg0)

theorem iblk1 (c : Dev nD) (t : Fin cfg0.N) : (iblk m c 1 t : Vec Ideal S8192x128 .f32) = V m c main_arg1 := by
  have h := index0 1 t
  exact Memref.read_access_unit_zero (Elt Ideal) main_arg1 h (fun a => by rw [congrFun h a]; simp) (V m c main_arg1)

theorem iblk2 (c : Dev nD) (t : Fin cfg0.N) : (iblk m c 2 t : Vec Ideal S7168x2304 .i8) = V m c main_arg2 := by
  have h := index0 2 t
  exact Memref.read_access_unit_zero (Elt Ideal) main_arg2 h (fun a => by rw [congrFun h a]; simp) (V m c main_arg2)

theorem iblk3 (c : Dev nD) (t : Fin cfg0.N) : (iblk m c 3 t : Vec Ideal S448x2304 .fp8e4m3) = V m c main_v0 := by
  have h := index0 3 t
  exact Memref.read_access_unit_zero (Elt Ideal) main_v0 h (fun a => by rw [congrFun h a]; simp) (V m c main_v0)

theorem iblk4 (c : Dev nD) (t : Fin cfg0.N) : (iblk m c 4 t : Vec Ideal S448x2304 .fp8e4m3) = V m c main_v1 := by
  have h := index0 4 t
  exact Memref.read_access_unit_zero (Elt Ideal) main_v1 h (fun a => by rw [congrFun h a]; simp) (V m c main_v1)

theorem iblk5 (c : Dev nD) (t : Fin cfg0.N) : (iblk m c 5 t : Vec Ideal S1 .f32) = V m c main_v2 := by
  have h := index0 5 t
  exact Memref.read_access_unit_zero (Elt Ideal) main_v2 h (fun a => by rw [congrFun h a]; simp) (V m c main_v2)

/-- The hidden rows of the arguments. -/
abbrev hid (c : Dev nD) : S8192x2304.Idx → EReal :=
  Hidden.rows (m ((c : Thread nD τ).loc main_arg0)) (m ((c : Thread nD τ).loc main_arg1)) (m ((c : Thread nD τ).loc main_arg2))
    (m ((c : Thread nD τ).loc main_arg3)) (m ((c : Thread nD τ).loc main_arg4))

theorem hidOf_eq (c : Dev nD) (t : Fin cfg0.N) :
    hidOf (iblk m c 0 t) (iblk m c 1 t) (iblk m c 2 t) (iblk m c 3 t) (iblk m c 4 t) (iblk m c 5 t) = hid m c := by
  rw [iblk0, iblk1, iblk2, iblk3, iblk4, iblk5, V_v0, V_v1]
  funext j
  refine (hidRef_apply _ _ _ _ _ _ j).trans ?_
  rw [V_v2]
  unfold hid Hidden.rows hiddenAt
  have e : column (V m c main_arg1) (ix2 (j 0 : Fin 8192) (0 : Fin 1)) = m ((c : Thread nD τ).loc main_arg1) (ix2 (j 0 : Fin 8192) (0 : Fin 128)) := by
    show m ((c : Thread nD τ).loc main_arg1) _ = _
    congr 1
    funext a
    apply Fin.ext
    match a with
    | ⟨0, _⟩ => show 0 + 1 * (j 0).val = (j 0).val; omega
    | ⟨1, _⟩ => rfl
  rw [e]
  rfl

theorem final6 (c : Dev nD) : (dats m 0 c).arrAt 6 cfg0.N = Hidden.codes (hid m c) := by
  refine (dats m 0 c).arrAt_eq_of_cover 6 _ (fun t _ => ?_) fun i => ⟨zeroth, flush0_6 _, ?_⟩
  · show (cfg0.win 6).cut (grid0.coords t) ((dats m 0 c).after 6 t) = _
    rw [after0_6]
    unfold outsAt0
    dsimp only
    rw [out6_eq, hidOf_eq]
    have h := index0 6 t
    exact (Memref.read_access_unit_zero (Elt Ideal) main_v3_0 h (fun a => by rw [congrFun h a]; simp) _).symm
  · show i ∈ ((View.whole main_v3_0).slice (win0_6.rect zeroth)).set
    rw [View.set_slice_whole, Rect.mem_set_unit]
    intro a
    have hx : ∀ a, win0_6.xsize (grid0.coords zeroth) a = main_v3_0.ty.shape.size a := by decide +kernel
    have h := congrFun (index0 6 zeroth) a
    have hi := (i a).isLt
    exact ⟨h.le.trans (Nat.zero_le _), by rw [hx a]; exact lt_of_lt_of_le hi (Nat.le_add_left _ _)⟩

theorem final7 (c : Dev nD) : (dats m 0 c).arrAt 7 cfg0.N = Hidden.scales (hid m c) := by
  refine (dats m 0 c).arrAt_eq_of_cover 7 _ (fun t _ => ?_) fun i => ⟨zeroth, flush0_7 _, ?_⟩
  · show (cfg0.win 7).cut (grid0.coords t) ((dats m 0 c).after 7 t) = _
    rw [after0_7]
    unfold outsAt0
    dsimp only
    rw [out7_eq, hidOf_eq]
    have h := index0 7 t
    exact (Memref.read_access_unit_zero (Elt Ideal) main_v3_1 h (fun a => by rw [congrFun h a]; simp) _).symm
  · show i ∈ ((View.whole main_v3_1).slice (win0_7.rect zeroth)).set
    rw [View.set_slice_whole, Rect.mem_set_unit]
    intro a
    have hx : ∀ a, win0_7.xsize (grid0.coords zeroth) a = main_v3_1.ty.shape.size a := by decide +kernel
    have h := congrFun (index0 7 zeroth) a
    have hi := (i a).isLt
    exact ⟨h.le.trans (Nat.zero_le _), by rw [hx a]; exact lt_of_lt_of_le hi (Nat.le_add_left _ _)⟩

/-- The reference's run: its results are the codes and the scales of the hidden rows; the arguments are unchanged. -/
theorem run : θ_run defs (onTc (τ := τ) (main (F := Ideal))) ⟨m, fun _ => 0, ρ⟩ fun r => ∀ c : Dev nD,
      r.2.mem ((c : Thread nD τ).loc main_v3_0) = Hidden.codes (hid m c)
      ∧ r.2.mem ((c : Thread nD τ).loc main_v3_1) = Hidden.scales (hid m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 6).trans (final6 m c), ((h.1 c).1 7).trans (final7 m c), h.2 c⟩)
    (θ_run_and (run_main m ρ) (unchanged m ρ))

end Cert.ReferenceIdeal.Value
-- ==== Proof.Main.lean ====
/-
  The kernel of the second call computes what its reference computes.
-/
module

public import proofs.«01_k».proof.Proof.MainValue
public import proofs.«01_k».proof.Proof.RefValue
public import proofs.«01_k».proof.Defs

@[expose] public section

open Idealize.ShloMosaic Idealize.ShloMosaic.TcCoe Idealize.SL.Sem

namespace Cert.Proof

/-- Both programs leave the codes and the scales of the hidden rows of the arguments, which they leave unchanged. -/
theorem algebraic_main : Cert.algebraic_KernelIdeal_ReferenceIdeal := fun m ρ m' ρ' _ hag =>
  ⟨fun c => Hidden.codes (Cert.KernelIdeal.Value.hid m c), fun c => Hidden.scales (Cert.KernelIdeal.Value.hid m c),
    Cert.KernelIdeal.Value.run m ρ,
    (θ_run Cert.ReferenceIdeal.defs _ _).mono
      (fun _ h c => by
        have e : Cert.ReferenceIdeal.Value.hid m' c = Cert.KernelIdeal.Value.hid m c := by
          obtain ⟨h0, h1, h2, h3, h4⟩ := hag c
          unfold Cert.ReferenceIdeal.Value.hid Cert.KernelIdeal.Value.hid
          rw [h0, h1, h2, h3, h4]
        exact ⟨(h c).1.trans (congrArg Hidden.codes e), (h c).2.1.trans (congrArg Hidden.scales e), (h c).2.2⟩)
      (Cert.ReferenceIdeal.Value.run m' ρ')⟩

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quant
public import proofs.«01_k».proof.Proof.Gen.Quant.Skeleton
public import proofs.«01_k».proof.Proof.Gen.Quant.Launch
public import proofs.«01_k».proof.Proof.Gen.Quant.Points
public import proofs.«01_k».proof.Proof.Gen.Quant.Frame
public import proofs.«01_k».proof.Proof.Gen.QuantIdeal
public import proofs.«01_k».proof.Proof.Gen.QuantIdeal.Skeleton
public import proofs.«01_k».proof.Proof.Gen.QuantIdeal.Launch
public import proofs.«01_k».proof.Proof.Gen.QuantIdeal.Points
public import proofs.«01_k».proof.Proof.Gen.QuantIdeal.Frame
public import proofs.«01_k».proof.Proof.Gen.RefQuantIdeal
public import proofs.«01_k».proof.Proof.Gen.RefQuantIdeal.Skeleton
public import proofs.«01_k».proof.Proof.Gen.RefQuantIdeal.Launch
public import proofs.«01_k».proof.Proof.Gen.RefQuantIdeal.Points
public import proofs.«01_k».proof.Proof.Gen.RefQuantIdeal.Frame
public import proofs.«01_k».proof.Proof.QuantValue
public import proofs.«01_k».proof.Proof.KernelFrame
public import proofs.«01_k».proof.Proof.MainLaunch
public import proofs.«01_k».proof.Proof.Main
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Quant.Gen.facts, Cert.QuantIdeal.Gen.facts,
    Cert.RefQuantIdeal.Gen.facts,
    fun m ρ _ => Cert.Kernel.Gen.frame m ρ, fun m ρ _ => Cert.KernelIdeal.Gen.frame m ρ, fun m ρ _ => Cert.ReferenceIdeal.Gen.frame m ρ,
    fun m ρ _ => Cert.Quant.Gen.frame m ρ, fun m ρ _ => Cert.QuantIdeal.Gen.frame m ρ, fun m ρ _ => Cert.RefQuantIdeal.Gen.frame m ρ,
    trivial, algebraic_main, trivial, algebraic_quant⟩

end Cert.Proof

end
